-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  IdealRules.named_const.Statement Cert.KernelIdeal.κ "k" .f32 0x40084075#32 ((Real.sqrt ((13176795 / 4194304) * (Real.log 2)⁻¹) : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S16384x5 : Shape := ⟨2, ![16384, 5]⟩
abbrev S90x16 : Shape := ⟨2, ![90, 16]⟩
abbrev S360x16 : Shape := ⟨2, ![360, 16]⟩
abbrev S64x16 : Shape := ⟨2, ![64, 16]⟩
abbrev S8192x16 : Shape := ⟨2, ![8192, 16]⟩
abbrev S68x64 : Shape := ⟨2, ![68, 64]⟩
abbrev S64 : Shape := ⟨1, ![64]⟩
abbrev S64x128 : Shape := ⟨2, ![64, 128]⟩
abbrev S128 : Shape := ⟨1, ![128]⟩
abbrev S196x64 : Shape := ⟨2, ![196, 64]⟩
abbrev S64x300 : Shape := ⟨2, ![64, 300]⟩
abbrev S300 : Shape := ⟨1, ![300]⟩
abbrev S16384x4 : Shape := ⟨2, ![16384, 4]⟩
abbrev S_ : Shape := ⟨0, ![]⟩

class Facts : Prop where
  slices_S16384x5_S16384x4_0_0 : S16384x5.Slices ![0, 0] S16384x4
  bcast_S_S16384x4 : S_.BroadcastsInDim S16384x4 (![] : Fin 0 → Fin S16384x4.rank)
  reducesTo_S16384x4_S_d0_1 : S16384x4.ReducesTo [0, 1] S_
  h_S_ : 0 < S_.numel

variable [Facts]

def fn {F : FTy → Type} [FloatOps F] (main_arg0 : FVec F S16384x5 .f32) (main_arg1 : FVec F S90x16 .f32) (main_arg2 : FVec F S360x16 .f32) (main_arg3 : FVec F S64x16 .f32) (main_arg4 : FVec F S8192x16 .f32) (main_arg5 : FVec F S68x64 .f32) (main_arg6 : FVec F S64 .f32) (main_arg7 : FVec F S64 .f32) (main_arg8 : FVec F S64x128 .f32) (main_arg9 : FVec F S128 .f32) (main_arg10 : FVec F S128 .f32) (main_arg11 : FVec F S196x64 .f32) (main_arg12 : FVec F S64 .f32) (main_arg13 : FVec F S64 .f32) (main_arg14 : FVec F S64x300 .f32) (main_arg15 : FVec F S300 .f32) : IVec S_ 1 :=
  let main_v0 : FVec F S16384x4 .f32 := (extractStridedSlice S16384x4 ![0, 0] · slices_S16384x5_S16384x4_0_0) main_arg0
  let main_cst : FVec F S_ .f32 := constant S_ .f32 0x00000000#32
  let main_v1 : FVec F S16384x4 .f32 := broadcastInDim S16384x4 ![] bcast_S_S16384x4 main_cst
  let main_v2 : IVec S16384x4 1 := cmpf .oge main_v0 main_v1
  let main_cst_0 : FVec F S_ .f32 := constant S_ .f32 0x42800000#32
  let main_v3 : FVec F S16384x4 .f32 := broadcastInDim S16384x4 ![] bcast_S_S16384x4 main_cst_0
  let main_v4 : IVec S16384x4 1 := cmpf .olt main_v0 main_v3
  let main_v5 : IVec S16384x4 1 := andi main_v2 main_v4
  let main_c : IVec S_ 1 := constantI S_ 1 1#1
  let main_v6 : IVec S_ 1 := (fun x v => Host.reduce IntOp.andi x v reducesTo_S16384x4_S_d0_1 h_S_) main_v5 main_c
  main_v6
-- ==== Kernel.lean ====
abbrev S16384x5 : Shape := ⟨2, ![16384, 5]⟩
abbrev S90x16 : Shape := ⟨2, ![90, 16]⟩
abbrev S360x16 : Shape := ⟨2, ![360, 16]⟩
abbrev S64x16 : Shape := ⟨2, ![64, 16]⟩
abbrev S8192x16 : Shape := ⟨2, ![8192, 16]⟩
abbrev S68x64 : Shape := ⟨2, ![68, 64]⟩
abbrev S64 : Shape := ⟨1, ![64]⟩
abbrev S64x128 : Shape := ⟨2, ![64, 128]⟩
abbrev S128 : Shape := ⟨1, ![128]⟩
abbrev S196x64 : Shape := ⟨2, ![196, 64]⟩
abbrev S64x300 : Shape := ⟨2, ![64, 300]⟩
abbrev S300 : Shape := ⟨1, ![300]⟩
abbrev S16384x300 : Shape := ⟨2, ![16384, 300]⟩
abbrev S4096x5 : Shape := ⟨2, ![4096, 5]⟩
abbrev S4096x300 : Shape := ⟨2, ![4096, 300]⟩
abbrev S260x128 : Shape := ⟨2, ![260, 128]⟩
abbrev S128x64 : Shape := ⟨2, ![128, 64]⟩
abbrev S1x64 : Shape := ⟨2, ![1, 64]⟩
abbrev S1x128 : Shape := ⟨2, ![1, 128]⟩
abbrev S1x300 : Shape := ⟨2, ![1, 300]⟩
abbrev S16x64 : Shape := ⟨2, ![16, 64]⟩
abbrev S64x64 : Shape := ⟨2, ![64, 64]⟩
abbrev S260x64 : Shape := ⟨2, ![260, 64]⟩
abbrev S4096x128 : Shape := ⟨2, ![4096, 128]⟩
abbrev S4096x1 : Shape := ⟨2, ![4096, 1]⟩
abbrev S4096x4 : Shape := ⟨2, ![4096, 4]⟩
abbrev S4096x260 : Shape := ⟨2, ![4096, 260]⟩
abbrev S4096x64 : Shape := ⟨2, ![4096, 64]⟩

abbrev nBuf : Space → Nat
  | .hbm => 17
  | .vmem => 27
  | .smem => 0
  | _ => 0

abbrev bufTy : (tb : Table) → Fin (tcTables nBuf tb) → BufTy
  | .hbm, ⟨0, _⟩ => ⟨S16384x5, .f32⟩
  | .hbm, ⟨1, _⟩ => ⟨S90x16, .f32⟩
  | .hbm, ⟨2, _⟩ => ⟨S360x16, .f32⟩
  | .hbm, ⟨3, _⟩ => ⟨S64x16, .f32⟩
  | .hbm, ⟨4, _⟩ => ⟨S8192x16, .f32⟩
  | .hbm, ⟨5, _⟩ => ⟨S68x64, .f32⟩
  | .hbm, ⟨6, _⟩ => ⟨S64, .f32⟩
  | .hbm, ⟨7, _⟩ => ⟨S64, .f32⟩
  | .hbm, ⟨8, _⟩ => ⟨S64x128, .f32⟩
  | .hbm, ⟨9, _⟩ => ⟨S128, .f32⟩
  | .hbm, ⟨10, _⟩ => ⟨S128, .f32⟩
  | .hbm, ⟨11, _⟩ => ⟨S196x64, .f32⟩
  | .hbm, ⟨12, _⟩ => ⟨S64, .f32⟩
  | .hbm, ⟨13, _⟩ => ⟨S64, .f32⟩
  | .hbm, ⟨14, _⟩ => ⟨S64x300, .f32⟩
  | .hbm, ⟨15, _⟩ => ⟨S300, .f32⟩
  | .hbm, ⟨16, _⟩ => ⟨S16384x300, .f32⟩
  | .local _ .vmem, ⟨0, _⟩ => ⟨S4096x5, .f32⟩
  | .local _ .vmem, ⟨1, _⟩ => ⟨S4096x5, .f32⟩
  | .local _ .vmem, ⟨2, _⟩ => ⟨S90x16, .f32⟩
  | .local _ .vmem, ⟨3, _⟩ => ⟨S360x16, .f32⟩
  | .local _ .vmem, ⟨4, _⟩ => ⟨S64x16, .f32⟩
  | .local _ .vmem, ⟨5, _⟩ => ⟨S8192x16, .f32⟩
  | .local _ .vmem, ⟨6, _⟩ => ⟨S68x64, .f32⟩
  | .local _ .vmem, ⟨7, _⟩ => ⟨S64, .f32⟩
  | .local _ .vmem, ⟨8, _⟩ => ⟨S64, .f32⟩
  | .local _ .vmem, ⟨9, _⟩ => ⟨S64x128, .f32⟩
  | .local _ .vmem, ⟨10, _⟩ => ⟨S128, .f32⟩
  | .local _ .vmem, ⟨11, _⟩ => ⟨S128, .f32⟩
  | .local _ .vmem, ⟨12, _⟩ => ⟨S196x64, .f32⟩
  | .local _ .vmem, ⟨13, _⟩ => ⟨S64, .f32⟩
  | .local _ .vmem, ⟨14, _⟩ => ⟨S64, .f32⟩
  | .local _ .vmem, ⟨15, _⟩ => ⟨S64x300, .f32⟩
  | .local _ .vmem, ⟨16, _⟩ => ⟨S300, .f32⟩
  | .local _ .vmem, ⟨17, _⟩ => ⟨S4096x300, .f32⟩
  | .local _ .vmem, ⟨18, _⟩ => ⟨S4096x300, .f32⟩
  | .local _ .vmem, ⟨19, _⟩ => ⟨S260x128, .bf16⟩
  | .local _ .vmem, ⟨20, _⟩ => ⟨S64x128, .bf16⟩
  | .local _ .vmem, ⟨21, _⟩ => ⟨S128x64, .bf16⟩
  | .local _ .vmem, ⟨22, _⟩ => ⟨S64x300, .bf16⟩
  | .local _ .vmem, ⟨23, _⟩ => ⟨S1x64, .f32⟩
  | .local _ .vmem, ⟨24, _⟩ => ⟨S1x128, .f32⟩
  | .local _ .vmem, ⟨25, _⟩ => ⟨S1x64, .f32⟩
  | .local _ .vmem, ⟨26, _⟩ => ⟨S1x300, .f32⟩
  | _, _ => ⟨S16384x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg16_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_scratch6 : Ref sig .tc := ⟨.vmem, 25, rfl⟩
abbrev cc0_scratch7 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem16_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S90x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S360x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8192x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S68x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S196x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64x300 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S300 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S4096x300 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== KernelIdeal.lean ====
variable {F : FTy → Type} [FloatOps F] [Named F]
def κ : String → Option EReal := fun
  | "k" => some ((Real.sqrt ((13176795 / 4194304) * (Real.log 2)⁻¹) : ℝ) : EReal)
  | _ => none
-- ==== ReferenceIdeal.lean ====
abbrev S16384x5 : Shape := ⟨2, ![16384, 5]⟩
abbrev S90x16 : Shape := ⟨2, ![90, 16]⟩
abbrev S360x16 : Shape := ⟨2, ![360, 16]⟩
abbrev S64x16 : Shape := ⟨2, ![64, 16]⟩
abbrev S8192x16 : Shape := ⟨2, ![8192, 16]⟩
abbrev S68x64 : Shape := ⟨2, ![68, 64]⟩
abbrev S64 : Shape := ⟨1, ![64]⟩
abbrev S64x128 : Shape := ⟨2, ![64, 128]⟩
abbrev S128 : Shape := ⟨1, ![128]⟩
abbrev S196x64 : Shape := ⟨2, ![196, 64]⟩
abbrev S64x300 : Shape := ⟨2, ![64, 300]⟩
abbrev S300 : Shape := ⟨1, ![300]⟩
abbrev S16384x1 : Shape := ⟨2, ![16384, 1]⟩
abbrev S16384 : Shape := ⟨1, ![16384]⟩
abbrev S_ : Shape := ⟨0, ![]⟩
abbrev S1 : Shape := ⟨1, ![1]⟩
abbrev S1x1 : Shape := ⟨2, ![1, 1]⟩
abbrev S16384x16 : Shape := ⟨2, ![16384, 16]⟩
abbrev S16384x17 : Shape := ⟨2, ![16384, 17]⟩
abbrev S16384x68 : Shape := ⟨2, ![16384, 68]⟩
abbrev S16384x64 : Shape := ⟨2, ![16384, 64]⟩
abbrev S1x64 : Shape := ⟨2, ![1, 64]⟩
abbrev S16384x128 : Shape := ⟨2, ![16384, 128]⟩
abbrev S1x128 : Shape := ⟨2, ![1, 128]⟩
abbrev S16384x196 : Shape := ⟨2, ![16384, 196]⟩
abbrev S16384x300 : Shape := ⟨2, ![16384, 300]⟩
abbrev S1x300 : Shape := ⟨2, ![1, 300]⟩

abbrev nBuf : Space → Nat
  | .hbm => 198
  | .vmem => 0
  | .smem => 0
  | _ => 0

abbrev hbmTy0_0 (i : Nat) : BufTy := match i % 128 with
  | 0 => ⟨S16384x5, .f32⟩
  | 1 => ⟨S90x16, .f32⟩
  | 2 => ⟨S360x16, .f32⟩
  | 3 => ⟨S64x16, .f32⟩
  | 4 => ⟨S8192x16, .f32⟩
  | 5 => ⟨S68x64, .f32⟩
  | 6 => ⟨S64, .f32⟩
  | 7 => ⟨S64, .f32⟩
  | 8 => ⟨S64x128, .f32⟩
  | 9 => ⟨S128, .f32⟩
  | 10 => ⟨S128, .f32⟩
  | 11 => ⟨S196x64, .f32⟩
  | 12 => ⟨S64, .f32⟩
  | 13 => ⟨S64, .f32⟩
  | 14 => ⟨S64x300, .f32⟩
  | 15 => ⟨S300, .f32⟩
  | 16 => ⟨S16384x1, .f32⟩
  | 17 => ⟨S16384, .f32⟩
  | 18 => ⟨S_, .f32⟩
  | 19 => ⟨S16384, .f32⟩
  | 20 => ⟨S16384, .i1⟩
  | 21 => ⟨S16384, .f32⟩
  | 22 => ⟨S16384, .f32⟩
  | 23 => ⟨S16384, .f32⟩
  | 24 => ⟨S16384x1, .f32⟩
  | 25 => ⟨S16384, .f32⟩
  | 26 => ⟨S_, .f32⟩
  | 27 => ⟨S16384, .f32⟩
  | 28 => ⟨S16384, .i1⟩
  | 29 => ⟨S16384, .f32⟩
  | 30 => ⟨S16384, .f32⟩
  | 31 => ⟨S16384, .f32⟩
  | 32 => ⟨S16384x1, .f32⟩
  | 33 => ⟨S16384, .f32⟩
  | 34 => ⟨S_, .f32⟩
  | 35 => ⟨S16384, .f32⟩
  | 36 => ⟨S16384, .i1⟩
  | 37 => ⟨S16384, .f32⟩
  | 38 => ⟨S16384, .f32⟩
  | 39 => ⟨S16384, .f32⟩
  | 40 => ⟨S16384, .i32⟩
  | 41 => ⟨S_, .i32⟩
  | 42 => ⟨S16384, .i32⟩
  | 43 => ⟨S16384, .i1⟩
  | 44 => ⟨S_, .i32⟩
  | 45 => ⟨S16384, .i32⟩
  | 46 => ⟨S16384, .i32⟩
  | 47 => ⟨S16384, .i32⟩
  | 48 => ⟨S16384x1, .i32⟩
  | 49 => ⟨S1, .i32⟩
  | 50 => ⟨S_, .i32⟩
  | 51 => ⟨S16384x1, .i32⟩
  | 52 => ⟨S16384x1, .i1⟩
  | 53 => ⟨S1x1, .i32⟩
  | 54 => ⟨S16384x1, .i32⟩
  | 55 => ⟨S16384x1, .i1⟩
  | 56 => ⟨S16384x1, .i1⟩
  | 57 => ⟨S_, .i1⟩
  | 58 => ⟨S16384, .i1⟩
  | 59 => ⟨S16384x16, .f32⟩
  | 60 => ⟨S16384x16, .i1⟩
  | 61 => ⟨S_, .f32⟩
  | 62 => ⟨S16384x16, .f32⟩
  | 63 => ⟨S16384x16, .f32⟩
  | 64 => ⟨S16384x1, .f32⟩
  | 65 => ⟨S16384, .f32⟩
  | 66 => ⟨S16384, .f32⟩
  | 67 => ⟨S16384x1, .f32⟩
  | 68 => ⟨S16384x17, .f32⟩
  | 69 => ⟨S16384, .i32⟩
  | 70 => ⟨S_, .i32⟩
  | 71 => ⟨S16384, .i32⟩
  | 72 => ⟨S16384, .i1⟩
  | 73 => ⟨S_, .i32⟩
  | 74 => ⟨S16384, .i32⟩
  | 75 => ⟨S16384, .i32⟩
  | 76 => ⟨S16384, .i32⟩
  | 77 => ⟨S16384x1, .i32⟩
  | 78 => ⟨S1, .i32⟩
  | 79 => ⟨S_, .i32⟩
  | 80 => ⟨S16384x1, .i32⟩
  | 81 => ⟨S16384x1, .i1⟩
  | 82 => ⟨S1x1, .i32⟩
  | 83 => ⟨S16384x1, .i32⟩
  | 84 => ⟨S16384x1, .i1⟩
  | 85 => ⟨S16384x1, .i1⟩
  | 86 => ⟨S_, .i1⟩
  | 87 => ⟨S16384, .i1⟩
  | 88 => ⟨S16384x16, .f32⟩
  | 89 => ⟨S16384x16, .i1⟩
  | 90 => ⟨S_, .f32⟩
  | 91 => ⟨S16384x16, .f32⟩
  | 92 => ⟨S16384x16, .f32⟩
  | 93 => ⟨S16384x1, .f32⟩
  | 94 => ⟨S16384, .f32⟩
  | 95 => ⟨S16384, .f32⟩
  | 96 => ⟨S16384x1, .f32⟩
  | 97 => ⟨S16384x17, .f32⟩
  | 98 => ⟨S16384x1, .f32⟩
  | 99 => ⟨S16384, .f32⟩
  | 100 => ⟨S16384, .i32⟩
  | 101 => ⟨S_, .i32⟩
  | 102 => ⟨S16384, .i32⟩
  | 103 => ⟨S16384, .i1⟩
  | 104 => ⟨S_, .i32⟩
  | 105 => ⟨S16384, .i32⟩
  | 106 => ⟨S16384, .i32⟩
  | 107 => ⟨S16384, .i32⟩
  | 108 => ⟨S16384x1, .i32⟩
  | 109 => ⟨S1, .i32⟩
  | 110 => ⟨S_, .i32⟩
  | 111 => ⟨S16384x1, .i32⟩
  | 112 => ⟨S16384x1, .i1⟩
  | 113 => ⟨S1x1, .i32⟩
  | 114 => ⟨S16384x1, .i32⟩
  | 115 => ⟨S16384x1, .i1⟩
  | 116 => ⟨S16384x1, .i1⟩
  | 117 => ⟨S_, .i1⟩
  | 118 => ⟨S16384, .i1⟩
  | 119 => ⟨S16384x16, .f32⟩
  | 120 => ⟨S16384x16, .i1⟩
  | 121 => ⟨S_, .f32⟩
  | 122 => ⟨S16384x16, .f32⟩
  | 123 => ⟨S16384x16, .f32⟩
  | 124 => ⟨S16384, .i32⟩
  | 125 => ⟨S_, .i32⟩
  | 126 => ⟨S16384, .i32⟩
  | 127 => ⟨S16384, .i1⟩
  | _ => ⟨S16384x5, .f32⟩

abbrev hbmTy0_1 (i : Nat) : BufTy := match i % 128 with
  | 0 => ⟨S_, .i32⟩
  | 1 => ⟨S16384, .i32⟩
  | 2 => ⟨S16384, .i32⟩
  | 3 => ⟨S16384, .i32⟩
  | 4 => ⟨S16384x1, .i32⟩
  | 5 => ⟨S1, .i32⟩
  | 6 => ⟨S_, .i32⟩
  | 7 => ⟨S16384x1, .i32⟩
  | 8 => ⟨S16384x1, .i1⟩
  | 9 => ⟨S1x1, .i32⟩
  | 10 => ⟨S16384x1, .i32⟩
  | 11 => ⟨S16384x1, .i1⟩
  | 12 => ⟨S16384x1, .i1⟩
  | 13 => ⟨S_, .i1⟩
  | 14 => ⟨S16384, .i1⟩
  | 15 => ⟨S16384x16, .f32⟩
  | 16 => ⟨S16384x16, .i1⟩
  | 17 => ⟨S_, .f32⟩
  | 18 => ⟨S16384x16, .f32⟩
  | 19 => ⟨S16384x16, .f32⟩
  | 20 => ⟨S16384x1, .f32⟩
  | 21 => ⟨S16384, .f32⟩
  | 22 => ⟨S16384, .f32⟩
  | 23 => ⟨S16384x1, .f32⟩
  | 24 => ⟨S16384x17, .f32⟩
  | 25 => ⟨S16384x1, .f32⟩
  | 26 => ⟨S16384, .f32⟩
  | 27 => ⟨S16384x1, .f32⟩
  | 28 => ⟨S16384x68, .f32⟩
  | 29 => ⟨S16384x64, .f32⟩
  | 30 => ⟨S1x64, .f32⟩
  | 31 => ⟨S16384x64, .f32⟩
  | 32 => ⟨S16384x64, .f32⟩
  | 33 => ⟨S1x64, .f32⟩
  | 34 => ⟨S16384x64, .f32⟩
  | 35 => ⟨S16384x64, .f32⟩
  | 36 => ⟨S16384x64, .f32⟩
  | 37 => ⟨S_, .f32⟩
  | 38 => ⟨S16384x64, .f32⟩
  | 39 => ⟨S16384x64, .f32⟩
  | 40 => ⟨S16384x64, .f32⟩
  | 41 => ⟨S16384x128, .f32⟩
  | 42 => ⟨S1x128, .f32⟩
  | 43 => ⟨S16384x128, .f32⟩
  | 44 => ⟨S16384x128, .f32⟩
  | 45 => ⟨S1x128, .f32⟩
  | 46 => ⟨S16384x128, .f32⟩
  | 47 => ⟨S16384x128, .f32⟩
  | 48 => ⟨S16384x128, .f32⟩
  | 49 => ⟨S_, .f32⟩
  | 50 => ⟨S16384x128, .f32⟩
  | 51 => ⟨S16384x128, .f32⟩
  | 52 => ⟨S16384x128, .f32⟩
  | 53 => ⟨S16384x196, .f32⟩
  | 54 => ⟨S16384x64, .f32⟩
  | 55 => ⟨S1x64, .f32⟩
  | 56 => ⟨S16384x64, .f32⟩
  | 57 => ⟨S16384x64, .f32⟩
  | 58 => ⟨S1x64, .f32⟩
  | 59 => ⟨S16384x64, .f32⟩
  | 60 => ⟨S16384x64, .f32⟩
  | 61 => ⟨S16384x64, .f32⟩
  | 62 => ⟨S_, .f32⟩
  | 63 => ⟨S16384x64, .f32⟩
  | 64 => ⟨S16384x64, .f32⟩
  | 65 => ⟨S16384x64, .f32⟩
  | 66 => ⟨S16384x300, .f32⟩
  | 67 => ⟨S1x300, .f32⟩
  | 68 => ⟨S16384x300, .f32⟩
  | 69 => ⟨S16384x300, .f32⟩
  | _ => ⟨S16384x5, .f32⟩

abbrev hbmTy (i : Nat) : BufTy := match i / 128 with
  | 0 => hbmTy0_0 i
  | 1 => hbmTy0_1 i
  | _ => ⟨S16384x5, .f32⟩

abbrev bufTy : (tb : Table) → Fin (tcTables nBuf tb) → BufTy
  | .hbm, ⟨i, _⟩ => hbmTy i
  | _, _ => ⟨S16384x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_call1_cst : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_call2_cst : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_v8 : Ref sig .tc := ⟨.hbm, 39, rfl⟩
abbrev main_v9 : Ref sig .tc := ⟨.hbm, 40, rfl⟩
abbrev main_call3_c : Ref sig .tc := ⟨.hbm, 41, rfl⟩
abbrev main_call3_v0 : Ref sig .tc := ⟨.hbm, 42, rfl⟩
abbrev main_call3_v1 : Ref sig .tc := ⟨.hbm, 43, rfl⟩
abbrev main_call3_c_0 : Ref sig .tc := ⟨.hbm, 44, rfl⟩
abbrev main_call3_v2 : Ref sig .tc := ⟨.hbm, 45, rfl⟩
abbrev main_call3_v3 : Ref sig .tc := ⟨.hbm, 46, rfl⟩
abbrev main_call3_v4 : Ref sig .tc := ⟨.hbm, 47, rfl⟩
abbrev main_call3_v5 : Ref sig .tc := ⟨.hbm, 48, rfl⟩
abbrev main_call3_c_1 : Ref sig .tc := ⟨.hbm, 49, rfl⟩
abbrev main_call3_c_2 : Ref sig .tc := ⟨.hbm, 50, rfl⟩
abbrev main_call3_v6 : Ref sig .tc := ⟨.hbm, 51, rfl⟩
abbrev main_call3_v7 : Ref sig .tc := ⟨.hbm, 52, rfl⟩
abbrev main_call3_v8 : Ref sig .tc := ⟨.hbm, 53, rfl⟩
abbrev main_call3_v9 : Ref sig .tc := ⟨.hbm, 54, rfl⟩
abbrev main_call3_v10 : Ref sig .tc := ⟨.hbm, 55, rfl⟩
abbrev main_call3_v11 : Ref sig .tc := ⟨.hbm, 56, rfl⟩
abbrev main_call3_c_3 : Ref sig .tc := ⟨.hbm, 57, rfl⟩
abbrev main_call3_v12 : Ref sig .tc := ⟨.hbm, 58, rfl⟩
abbrev main_call3_v13 : Ref sig .tc := ⟨.hbm, 59, rfl⟩
abbrev main_call3_v14 : Ref sig .tc := ⟨.hbm, 60, rfl⟩
abbrev main_call3_cst : Ref sig .tc := ⟨.hbm, 61, rfl⟩
abbrev main_call3_v15 : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_call4_c : Ref sig .tc := ⟨.hbm, 70, rfl⟩
abbrev main_call4_v0 : Ref sig .tc := ⟨.hbm, 71, rfl⟩
abbrev main_call4_v1 : Ref sig .tc := ⟨.hbm, 72, rfl⟩
abbrev main_call4_c_0 : Ref sig .tc := ⟨.hbm, 73, rfl⟩
abbrev main_call4_v2 : Ref sig .tc := ⟨.hbm, 74, rfl⟩
abbrev main_call4_v3 : Ref sig .tc := ⟨.hbm, 75, rfl⟩
abbrev main_call4_v4 : Ref sig .tc := ⟨.hbm, 76, rfl⟩
abbrev main_call4_v5 : Ref sig .tc := ⟨.hbm, 77, rfl⟩
abbrev main_call4_c_1 : Ref sig .tc := ⟨.hbm, 78, rfl⟩
abbrev main_call4_c_2 : Ref sig .tc := ⟨.hbm, 79, rfl⟩
abbrev main_call4_v6 : Ref sig .tc := ⟨.hbm, 80, rfl⟩
abbrev main_call4_v7 : Ref sig .tc := ⟨.hbm, 81, rfl⟩
abbrev main_call4_v8 : Ref sig .tc := ⟨.hbm, 82, rfl⟩
abbrev main_call4_v9 : Ref sig .tc := ⟨.hbm, 83, rfl⟩
abbrev main_call4_v10 : Ref sig .tc := ⟨.hbm, 84, rfl⟩
abbrev main_call4_v11 : Ref sig .tc := ⟨.hbm, 85, rfl⟩
abbrev main_call4_c_3 : Ref sig .tc := ⟨.hbm, 86, rfl⟩
abbrev main_call4_v12 : Ref sig .tc := ⟨.hbm, 87, rfl⟩
abbrev main_call4_v13 : Ref sig .tc := ⟨.hbm, 88, rfl⟩
abbrev main_call4_v14 : Ref sig .tc := ⟨.hbm, 89, rfl⟩
abbrev main_call4_cst : Ref sig .tc := ⟨.hbm, 90, rfl⟩
abbrev main_call4_v15 : Ref sig .tc := ⟨.hbm, 91, rfl⟩
abbrev main_v17 : Ref sig .tc := ⟨.hbm, 92, rfl⟩
abbrev main_v18 : Ref sig .tc := ⟨.hbm, 93, rfl⟩
abbrev main_v19 : Ref sig .tc := ⟨.hbm, 94, rfl⟩
abbrev main_v20 : Ref sig .tc := ⟨.hbm, 95, rfl⟩
abbrev main_v21 : Ref sig .tc := ⟨.hbm, 96, rfl⟩
abbrev main_v22 : Ref sig .tc := ⟨.hbm, 97, rfl⟩
abbrev main_v23 : Ref sig .tc := ⟨.hbm, 98, rfl⟩
abbrev main_v24 : Ref sig .tc := ⟨.hbm, 99, rfl⟩
abbrev main_v25 : Ref sig .tc := ⟨.hbm, 100, rfl⟩
abbrev main_call5_c : Ref sig .tc := ⟨.hbm, 101, rfl⟩
abbrev main_call5_v0 : Ref sig .tc := ⟨.hbm, 102, rfl⟩
abbrev main_call5_v1 : Ref sig .tc := ⟨.hbm, 103, rfl⟩
abbrev main_call5_c_0 : Ref sig .tc := ⟨.hbm, 104, rfl⟩
abbrev main_call5_v2 : Ref sig .tc := ⟨.hbm, 105, rfl⟩
abbrev main_call5_v3 : Ref sig .tc := ⟨.hbm, 106, rfl⟩
abbrev main_call5_v4 : Ref sig .tc := ⟨.hbm, 107, rfl⟩
abbrev main_call5_v5 : Ref sig .tc := ⟨.hbm, 108, rfl⟩
abbrev main_call5_c_1 : Ref sig .tc := ⟨.hbm, 109, rfl⟩
abbrev main_call5_c_2 : Ref sig .tc := ⟨.hbm, 110, rfl⟩
abbrev main_call5_v6 : Ref sig .tc := ⟨.hbm, 111, rfl⟩
abbrev main_call5_v7 : Ref sig .tc := ⟨.hbm, 112, rfl⟩
abbrev main_call5_v8 : Ref sig .tc := ⟨.hbm, 113, rfl⟩
abbrev main_call5_v9 : Ref sig .tc := ⟨.hbm, 114, rfl⟩
abbrev main_call5_v10 : Ref sig .tc := ⟨.hbm, 115, rfl⟩
abbrev main_call5_v11 : Ref sig .tc := ⟨.hbm, 116, rfl⟩
abbrev main_call5_c_3 : Ref sig .tc := ⟨.hbm, 117, rfl⟩
abbrev main_call5_v12 : Ref sig .tc := ⟨.hbm, 118, rfl⟩
abbrev main_call5_v13 : Ref sig .tc := ⟨.hbm, 119, rfl⟩
abbrev main_call5_v14 : Ref sig .tc := ⟨.hbm, 120, rfl⟩
abbrev main_call5_cst : Ref sig .tc := ⟨.hbm, 121, rfl⟩
abbrev main_call5_v15 : Ref sig .tc := ⟨.hbm, 122, rfl⟩
abbrev main_v26 : Ref sig .tc := ⟨.hbm, 123, rfl⟩
abbrev main_v27 : Ref sig .tc := ⟨.hbm, 124, rfl⟩
abbrev main_call6_c : Ref sig .tc := ⟨.hbm, 125, rfl⟩
abbrev main_call6_v0 : Ref sig .tc := ⟨.hbm, 126, rfl⟩
abbrev main_call6_v1 : Ref sig .tc := ⟨.hbm, 127, rfl⟩
abbrev main_call6_c_0 : Ref sig .tc := ⟨.hbm, 128, rfl⟩
abbrev main_call6_v2 : Ref sig .tc := ⟨.hbm, 129, rfl⟩
abbrev main_call6_v3 : Ref sig .tc := ⟨.hbm, 130, rfl⟩
abbrev main_call6_v4 : Ref sig .tc := ⟨.hbm, 131, rfl⟩
abbrev main_call6_v5 : Ref sig .tc := ⟨.hbm, 132, rfl⟩
abbrev main_call6_c_1 : Ref sig .tc := ⟨.hbm, 133, rfl⟩
abbrev main_call6_c_2 : Ref sig .tc := ⟨.hbm, 134, rfl⟩
abbrev main_call6_v6 : Ref sig .tc := ⟨.hbm, 135, rfl⟩
abbrev main_call6_v7 : Ref sig .tc := ⟨.hbm, 136, rfl⟩
abbrev main_call6_v8 : Ref sig .tc := ⟨.hbm, 137, rfl⟩
abbrev main_call6_v9 : Ref sig .tc := ⟨.hbm, 138, rfl⟩
abbrev main_call6_v10 : Ref sig .tc := ⟨.hbm, 139, rfl⟩
abbrev main_call6_v11 : Ref sig .tc := ⟨.hbm, 140, rfl⟩
abbrev main_call6_c_3 : Ref sig .tc := ⟨.hbm, 141, rfl⟩
abbrev main_call6_v12 : Ref sig .tc := ⟨.hbm, 142, rfl⟩
abbrev main_call6_v13 : Ref sig .tc := ⟨.hbm, 143, rfl⟩
abbrev main_call6_v14 : Ref sig .tc := ⟨.hbm, 144, rfl⟩
abbrev main_call6_cst : Ref sig .tc := ⟨.hbm, 145, rfl⟩
abbrev main_call6_v15 : Ref sig .tc := ⟨.hbm, 146, rfl⟩
abbrev main_v28 : Ref sig .tc := ⟨.hbm, 147, rfl⟩
abbrev main_v29 : Ref sig .tc := ⟨.hbm, 148, rfl⟩
abbrev main_v30 : Ref sig .tc := ⟨.hbm, 149, rfl⟩
abbrev main_v31 : Ref sig .tc := ⟨.hbm, 150, rfl⟩
abbrev main_v32 : Ref sig .tc := ⟨.hbm, 151, rfl⟩
abbrev main_v33 : Ref sig .tc := ⟨.hbm, 152, rfl⟩
abbrev main_v34 : Ref sig .tc := ⟨.hbm, 153, rfl⟩
abbrev main_v35 : Ref sig .tc := ⟨.hbm, 154, rfl⟩
abbrev main_v36 : Ref sig .tc := ⟨.hbm, 155, rfl⟩
abbrev main_v37 : Ref sig .tc := ⟨.hbm, 156, rfl⟩
abbrev main_v38 : Ref sig .tc := ⟨.hbm, 157, rfl⟩
abbrev main_v39 : Ref sig .tc := ⟨.hbm, 158, rfl⟩
abbrev main_v40 : Ref sig .tc := ⟨.hbm, 159, rfl⟩
abbrev main_v41 : Ref sig .tc := ⟨.hbm, 160, rfl⟩
abbrev main_v42 : Ref sig .tc := ⟨.hbm, 161, rfl⟩
abbrev main_v43 : Ref sig .tc := ⟨.hbm, 162, rfl⟩
abbrev main_v44 : Ref sig .tc := ⟨.hbm, 163, rfl⟩
abbrev main_v45 : Ref sig .tc := ⟨.hbm, 164, rfl⟩
abbrev main_cst : Ref sig .tc := ⟨.hbm, 165, rfl⟩
abbrev main_v46 : Ref sig .tc := ⟨.hbm, 166, rfl⟩
abbrev main_v47 : Ref sig .tc := ⟨.hbm, 167, rfl⟩
abbrev main_v48 : Ref sig .tc := ⟨.hbm, 168, rfl⟩
abbrev main_v49 : Ref sig .tc := ⟨.hbm, 169, rfl⟩
abbrev main_v50 : Ref sig .tc := ⟨.hbm, 170, rfl⟩
abbrev main_v51 : Ref sig .tc := ⟨.hbm, 171, rfl⟩
abbrev main_v52 : Ref sig .tc := ⟨.hbm, 172, rfl⟩
abbrev main_v53 : Ref sig .tc := ⟨.hbm, 173, rfl⟩
abbrev main_v54 : Ref sig .tc := ⟨.hbm, 174, rfl⟩
abbrev main_v55 : Ref sig .tc := ⟨.hbm, 175, rfl⟩
abbrev main_v56 : Ref sig .tc := ⟨.hbm, 176, rfl⟩
abbrev main_cst_0 : Ref sig .tc := ⟨.hbm, 177, rfl⟩
abbrev main_v57 : Ref sig .tc := ⟨.hbm, 178, rfl⟩
abbrev main_v58 : Ref sig .tc := ⟨.hbm, 179, rfl⟩
abbrev main_v59 : Ref sig .tc := ⟨.hbm, 180, rfl⟩
abbrev main_v60 : Ref sig .tc := ⟨.hbm, 181, rfl⟩
abbrev main_v61 : Ref sig .tc := ⟨.hbm, 182, rfl⟩
abbrev main_v62 : Ref sig .tc := ⟨.hbm, 183, rfl⟩
abbrev main_v63 : Ref sig .tc := ⟨.hbm, 184, rfl⟩
abbrev main_v64 : Ref sig .tc := ⟨.hbm, 185, rfl⟩
abbrev main_v65 : Ref sig .tc := ⟨.hbm, 186, rfl⟩
abbrev main_v66 : Ref sig .tc := ⟨.hbm, 187, rfl⟩
abbrev main_v67 : Ref sig .tc := ⟨.hbm, 188, rfl⟩
abbrev main_v68 : Ref sig .tc := ⟨.hbm, 189, rfl⟩
abbrev main_cst_1 : Ref sig .tc := ⟨.hbm, 190, rfl⟩
abbrev main_v69 : Ref sig .tc := ⟨.hbm, 191, rfl⟩
abbrev main_v70 : Ref sig .tc := ⟨.hbm, 192, rfl⟩
abbrev main_v71 : Ref sig .tc := ⟨.hbm, 193, rfl⟩
abbrev main_v72 : Ref sig .tc := ⟨.hbm, 194, rfl⟩
abbrev main_v73 : Ref sig .tc := ⟨.hbm, 195, rfl⟩
abbrev main_v74 : Ref sig .tc := ⟨.hbm, 196, rfl⟩
abbrev main_v75 : Ref sig .tc := ⟨.hbm, 197, rfl⟩

abbrev nD : Nat := 1
abbrev τ : Topo := Topo.v7x

variable {F : FTy → Type} [FloatOps F]
-- ==== Proof.Block.lean ====
/-
  What one grid point leaves, as values: the point's block of the result is `blockVal` of the point's rows of `x` and of
  the eight carried scratch arrays; the first point fills those arrays from the weights, the later points keep them.
-/
module

public import proofs.«01_k».proof.Proof.Gen.KernelIdeal.Frame
public import Idealize.ShloMosaic.Lib.Pipeline.Value
public import Idealize.ShloMosaic.Lib.Tactic

@[expose] public section

set_option maxRecDepth 16384

noncomputable section

namespace Cert.KernelIdeal.Block

open Idealize.ShloMosaic Idealize.ShloMosaic.TcCoe Idealize.SL.Sem Cert.KernelIdeal.Gen

theorem hz : (![0, 0] : Fin 2 → Nat) = fun _ => 0 := funext fun a => by fin_cases a <;> rfl

theorem hz1 : (![0] : Fin 1 → Nat) = fun _ => 0 := funext fun a => by fin_cases a; rfl

/-! ### The scratch arrays the first point computes -/

/-- The first 64 rows of an embedding table of 90 rows. -/
def rows90 (x : Vec Ideal S90x16 .f32) : Vec Ideal S64x16 .f32 :=
  View.ld x (Rect.unit ![0, 0] ![64, 16] inb_S90x16_S64x16_0_0)

/-- The first 64 rows of an embedding table of 360 rows. -/
def rows360 (x : Vec Ideal S360x16 .f32) : Vec Ideal S64x16 .f32 :=
  View.ld x (Rect.unit ![0, 0] ![64, 16] inb_S360x16_S64x16_0_0)

/-- The first 64 rows of an embedding table of 8192 rows. -/
def rows8192 (x : Vec Ideal S8192x16 .f32) : Vec Ideal S64x16 .f32 :=
  View.ld x (Rect.unit ![0, 0] ![64, 16] inb_S8192x16_S64x16_0_0)

/-- The rows of the third layer's weights that meet the embedded input. -/
def w3Head (x : Vec Ideal S196x64 .f32) : Vec Ideal S68x64 .f32 :=
  View.ld x (Rect.unit ![0, 0] ![68, 64] inb_S196x64_S68x64_0_0)

/-- The rows of the third layer's weights that meet the second layer's output. -/
def w3Tail (x : Vec Ideal S196x64 .f32) : Vec Ideal S128x64 .f32 :=
  View.ld x (Rect.unit ![68, 0] ![128, 64] inb_S196x64_S128x64_68_0)

/-- The fused tables: every embedding row already multiplied by the first layer's weights (columns 0–63) and by the
    third layer's (columns 64–127), scaled by `k`. -/
def scTables (x1 : Vec Ideal S90x16 .f32) (x2 : Vec Ideal S360x16 .f32) (x3 : Vec Ideal S64x16 .f32)
    (x4 : Vec Ideal S8192x16 .f32) (x5 : Vec Ideal S68x64 .f32) (x11 : Vec Ideal S196x64 .f32) : Vec Ideal S260x128 .bf16 :=
  k0_pay7 (F := Ideal) (k0_pay2 x5 (rows90 x1) (rows360 x2) (rows8192 x4) x3) (w3Head x11)
    (k0_pay3 (w3Head x11) (rows90 x1)) (k0_pay4 (w3Head x11) (rows360 x2)) (k0_pay5 (w3Head x11) (rows8192 x4))
    x3 (k0_pay6 (w3Head x11))

/-- The second layer's weights, scaled. -/
def scW2 (x8 : Vec Ideal S64x128 .f32) : Vec Ideal S64x128 .bf16 := k0_pay8 (F := Ideal) x8

/-- The third layer's lower weights, scaled. -/
def scW3 (x11 : Vec Ideal S196x64 .f32) : Vec Ideal S128x64 .bf16 := k0_pay9 (F := Ideal) (w3Tail x11)

/-- The output layer's weights. -/
def scW4 (x14 : Vec Ideal S64x300 .f32) : Vec Ideal S64x300 .bf16 := k0_pay10 (F := Ideal) x14

/-- The first layer's scaled shift. -/
def scC1 (x6 x7 : Vec Ideal S64 .f32) : Vec Ideal S1x64 .f32 := k0_pay12 (F := Ideal) x7 x6

/-- The second layer's scaled shift. -/
def scC2 (x9 x10 : Vec Ideal S128 .f32) : Vec Ideal S1x128 .f32 := k0_pay13 (F := Ideal) x10 x9

/-- The third layer's scaled shift. -/
def scC3 (x12 x13 : Vec Ideal S64 .f32) : Vec Ideal S1x64 .f32 := k0_pay14 (F := Ideal) x13 x12

/-- The output layer's bias as a row. -/
def scB4 (x15 : Vec Ideal S300 .f32) : Vec Ideal S1x300 .f32 := k0_pay11 (F := Ideal) x15

/-- A point's block of the result, from its rows of `x` and the carried scratch. -/
def blockVal (x0 : Vec Ideal S4096x5 .f32)
  (s0 : Vec Ideal S260x128 .bf16) (s1 : Vec Ideal S64x128 .bf16) (s2 : Vec Ideal S128x64 .bf16) (s3 : Vec
  Ideal S64x300 .bf16) (s4 : Vec Ideal S1x64 .f32) (s5 : Vec Ideal S1x128 .f32) (s6 : Vec Ideal S1x64 .f32)
  (s7 : Vec Ideal S1x300 .f32) :
    Vec Ideal S4096x300 .f32 :=
  k0_pay1 (F := Ideal) (k0_pay16 (k0_pay15 x0) s0 s4 s1 s5 s2 s6 s3) (k0_pay17 s7)

/-! ### What the generated run leaves is that -/

variable
  (c : Dev nD) (i : grid0.Coords) (arg1 : Memref sig .tc .vmem S4096x5 .f32) (harg1 : arg1.IsWhole) (arg2 :
  Memref sig .tc .vmem S90x16 .f32) (harg2 : arg2.IsWhole) (arg3 : Memref sig .tc .vmem S360x16 .f32) (harg3 :
  arg3.IsWhole) (arg4 : Memref sig .tc .vmem S64x16 .f32) (harg4 : arg4.IsWhole) (arg5 : Memref sig .tc .vmem
  S8192x16 .f32) (harg5 : arg5.IsWhole) (arg6 : Memref sig .tc .vmem S68x64 .f32) (harg6 : arg6.IsWhole) (arg7
  : Memref sig .tc .vmem S64 .f32) (harg7 : arg7.IsWhole) (arg8 : Memref sig .tc .vmem S64 .f32) (harg8 :
  arg8.IsWhole) (arg9 : Memref sig .tc .vmem S64x128 .f32) (harg9 : arg9.IsWhole) (arg10 : Memref sig .tc
  .vmem S128 .f32) (harg10 : arg10.IsWhole) (arg11 : Memref sig .tc .vmem S128 .f32) (harg11 : arg11.IsWhole)
  (arg12 : Memref sig .tc .vmem S196x64 .f32) (harg12 : arg12.IsWhole) (arg13 : Memref sig .tc .vmem S64 .f32)
  (harg13 : arg13.IsWhole) (arg14 : Memref sig .tc .vmem S64 .f32) (harg14 : arg14.IsWhole) (arg15 : Memref
  sig .tc .vmem S64x300 .f32) (harg15 : arg15.IsWhole) (arg16 : Memref sig .tc .vmem S300 .f32) (harg16 :
  arg16.IsWhole) (arg17 : Memref sig .tc .vmem S4096x300 .f32) (harg17 : arg17.IsWhole) (arg18 : Memref sig
  .tc .vmem S260x128 .bf16) (harg18 : arg18.IsWhole) (arg19 : Memref sig .tc .vmem S64x128 .bf16) (harg19 :
  arg19.IsWhole) (arg20 : Memref sig .tc .vmem S128x64 .bf16) (harg20 : arg20.IsWhole) (arg21 : Memref sig .tc
  .vmem S64x300 .bf16) (harg21 : arg21.IsWhole) (arg22 : Memref sig .tc .vmem S1x64 .f32) (harg22 :
  arg22.IsWhole) (arg23 : Memref sig .tc .vmem S1x128 .f32) (harg23 : arg23.IsWhole) (arg24 : Memref sig .tc
  .vmem S1x64 .f32) (harg24 : arg24.IsWhole) (arg25 : Memref sig .tc .vmem S1x300 .f32) (harg25 :
  arg25.IsWhole)
  (x0 : Vec Ideal S4096x5 .f32) (x1 : Vec Ideal S90x16 .f32) (x2 : Vec Ideal S360x16 .f32) (x3 : Vec Ideal
  S64x16 .f32) (x4 : Vec Ideal S8192x16 .f32) (x5 : Vec Ideal S68x64 .f32) (x6 : Vec Ideal S64 .f32) (x7 : Vec
  Ideal S64 .f32) (x8 : Vec Ideal S64x128 .f32) (x9 : Vec Ideal S128 .f32) (x10 : Vec Ideal S128 .f32) (x11 :
  Vec Ideal S196x64 .f32) (x12 : Vec Ideal S64 .f32) (x13 : Vec Ideal S64 .f32) (x14 : Vec Ideal S64x300 .f32)
  (x15 : Vec Ideal S300 .f32)
  (s0 : Vec Ideal S260x128 .bf16) (s1 : Vec Ideal S64x128 .bf16) (s2 : Vec Ideal S128x64 .bf16) (s3 : Vec
  Ideal S64x300 .bf16) (s4 : Vec Ideal S1x64 .f32) (s5 : Vec Ideal S1x128 .f32) (s6 : Vec Ideal S1x64 .f32)
  (s7 : Vec Ideal S1x300 .f32)

/-- The later points' block: from what the scratch holds. -/
theorem out_B (hc0 : ¬cond0_0 i) :
    out0_B_16 c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17
      arg18 harg18 arg19 harg19 arg20 harg20 arg21 harg21 arg22 harg22 arg23 harg23 arg24 harg24 arg25 harg25
      hc0 x0 x1 x2 x3 x4 x5 x6 x7 x8 x9 x10 x11 x12 x13 x14 x15 s0 s1 s2 s3 s4 s5 s6 s7
      = blockVal x0 s0 s1 s2 s3 s4 s5 s6 s7 := by
  unfold out0_B_16
  rw [View.read_writes_eq_canon _ _ _ (cover0_B_16 c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17
      arg18 harg18 arg19 harg19 arg20 harg20 arg21 harg21 arg22 harg22 arg23 harg23 arg24 harg24 arg25 harg25
      hc0 x0 x1 x2 x3 x4 x5 x6 x7 x8 x9 x10 x11 x12 x13 x14 x15 s0 s1 s2 s3 s4 s5 s6 s7)]
  unfold kernelRun0_B blockVal
  dsimp only
  sl_unfold_words
  rw [View.canon_unit_zero hz]
  simp only [View.readAt_eq_ld,
    harg1.read_unread, harg2.read_unread, harg3.read_unread, harg4.read_unread, harg5.read_unread,
    harg6.read_unread, harg7.read_unread, harg8.read_unread, harg9.read_unread, harg10.read_unread,
    harg11.read_unread, harg12.read_unread, harg13.read_unread, harg14.read_unread, harg15.read_unread,
    harg16.read_unread, harg17.read_unread, harg18.read_unread, harg19.read_unread, harg20.read_unread,
    harg21.read_unread, harg22.read_unread, harg23.read_unread, harg24.read_unread, harg25.read_unread,
    View.ld_unit_zero (S := S4096x5) hz, View.ld_unit_zero (S := S260x128) hz, View.ld_unit_zero (S := S64x128) hz,
    View.ld_unit_zero (S := S128x64) hz, View.ld_unit_zero (S := S64x300) hz, View.ld_unit_zero (S := S1x64) hz,
    View.ld_unit_zero (S := S1x128) hz, View.ld_unit_zero (S := S1x300) hz]

/-- The first point's block: from the scratch it has just filled. -/
theorem out_A (hc0 : cond0_0 i) :
    out0_A_16 c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17
      arg18 harg18 arg19 harg19 arg20 harg20 arg21 harg21 arg22 harg22 arg23 harg23 arg24 harg24 arg25 harg25
      hc0 x0 x1 x2 x3 x4 x5 x6 x7 x8 x9 x10 x11 x12 x13 x14 x15
      = blockVal x0 (scTables x1 x2 x3 x4 x5 x11) (scW2 x8) (scW3 x11) (scW4 x14) (scC1 x6 x7) (scC2 x9 x10) (scC3 x12 x13) (scB4 x15) := by
  unfold out0_A_16
  rw [View.read_writes_eq_canon _ _ _ (cover0_A_16 c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17
      arg18 harg18 arg19 harg19 arg20 harg20 arg21 harg21 arg22 harg22 arg23 harg23 arg24 harg24 arg25 harg25
      hc0 x0 x1 x2 x3 x4 x5 x6 x7 x8 x9 x10 x11 x12 x13 x14 x15)]
  unfold kernelRun0_A blockVal scTables scW2 scW3 scW4 scC1 scC2 scC3 scB4 rows90 rows360 rows8192 w3Head w3Tail
  dsimp only
  sl_unfold_words
  rw [View.canon_unit_zero hz]
  simp only [View.readAt_eq_ld,
    harg1.read_unread, harg2.read_unread, harg3.read_unread, harg4.read_unread, harg5.read_unread,
    harg6.read_unread, harg7.read_unread, harg8.read_unread, harg9.read_unread, harg10.read_unread,
    harg11.read_unread, harg12.read_unread, harg13.read_unread, harg14.read_unread, harg15.read_unread,
    harg16.read_unread, harg17.read_unread, harg18.read_unread, harg19.read_unread, harg20.read_unread,
    harg21.read_unread, harg22.read_unread, harg23.read_unread, harg24.read_unread, harg25.read_unread,
    View.readCov_unit_zero (S := S260x128) _ hz, View.readCov_unit_zero (S := S64x128) _ hz,
    View.readCov_unit_zero (S := S128x64) _ hz, View.readCov_unit_zero (S := S64x300) _ hz,
    View.readCov_unit_zero (S := S1x64) _ hz, View.readCov_unit_zero (S := S1x128) _ hz,
    View.readCov_unit_zero (S := S1x300) _ hz,
    View.ld_unit_zero (S := S4096x5) hz,
    View.ld_unit_zero (S := S64x16) hz,
    View.ld_unit_zero (S := S68x64) hz,
    View.ld_unit_zero (S := S64) hz1,
    View.ld_unit_zero (S := S64x128) hz,
    View.ld_unit_zero (S := S128) hz1,
    View.ld_unit_zero (S := S64x300) hz,
    View.ld_unit_zero (S := S300) hz1]

/-- The first point leaves in the scratch array of fused tables what its definition says. -/
theorem scratch_A_0 (hc0 : cond0_0 i) :
    sout0_A_0 c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17
      arg18 harg18 arg19 harg19 arg20 harg20 arg21 harg21 arg22 harg22 arg23 harg23 arg24 harg24 arg25 harg25
      hc0 x0 x1 x2 x3 x4 x5 x6 x7 x8 x9 x10 x11 x12 x13 x14 x15
      = scTables x1 x2 x3 x4 x5 x11 := by
  unfold sout0_A_0
  rw [View.read_writes_eq_canon _ _ _ (scover0_A_0 c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17
      arg18 harg18 arg19 harg19 arg20 harg20 arg21 harg21 arg22 harg22 arg23 harg23 arg24 harg24 arg25 harg25
      hc0 x0 x1 x2 x3 x4 x5 x6 x7 x8 x9 x10 x11 x12 x13 x14 x15)]
  unfold kernelRun0_A scTables rows90 rows360 rows8192 w3Head
  dsimp only
  sl_unfold_words
  rw [View.canon_unit_zero hz]
  simp only [View.readAt_eq_ld,
    harg1.read_unread, harg2.read_unread, harg3.read_unread, harg4.read_unread, harg5.read_unread,
    harg6.read_unread, harg7.read_unread, harg8.read_unread, harg9.read_unread, harg10.read_unread,
    harg11.read_unread, harg12.read_unread, harg13.read_unread, harg14.read_unread, harg15.read_unread,
    harg16.read_unread, harg17.read_unread, harg18.read_unread, harg19.read_unread, harg20.read_unread,
    harg21.read_unread, harg22.read_unread, harg23.read_unread, harg24.read_unread, harg25.read_unread,
    View.ld_unit_zero (S := S4096x5) hz,
    View.ld_unit_zero (S := S64x16) hz,
    View.ld_unit_zero (S := S68x64) hz,
    View.ld_unit_zero (S := S64) hz1,
    View.ld_unit_zero (S := S64x128) hz,
    View.ld_unit_zero (S := S128) hz1,
    View.ld_unit_zero (S := S64x300) hz,
    View.ld_unit_zero (S := S300) hz1]

/-- The first point leaves in the scratch array of the second layer's weights what its definition says. -/
theorem scratch_A_1 (hc0 : cond0_0 i) :
    sout0_A_1 c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17
      arg18 harg18 arg19 harg19 arg20 harg20 arg21 harg21 arg22 harg22 arg23 harg23 arg24 harg24 arg25 harg25
      hc0 x0 x1 x2 x3 x4 x5 x6 x7 x8 x9 x10 x11 x12 x13 x14 x15
      = scW2 x8 := by
  unfold sout0_A_1
  rw [View.read_writes_eq_canon _ _ _ (scover0_A_1 c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17
      arg18 harg18 arg19 harg19 arg20 harg20 arg21 harg21 arg22 harg22 arg23 harg23 arg24 harg24 arg25 harg25
      hc0 x0 x1 x2 x3 x4 x5 x6 x7 x8 x9 x10 x11 x12 x13 x14 x15)]
  unfold kernelRun0_A scW2
  dsimp only
  sl_unfold_words
  rw [View.canon_unit_zero hz]
  simp only [View.readAt_eq_ld,
    harg1.read_unread, harg2.read_unread, harg3.read_unread, harg4.read_unread, harg5.read_unread,
    harg6.read_unread, harg7.read_unread, harg8.read_unread, harg9.read_unread, harg10.read_unread,
    harg11.read_unread, harg12.read_unread, harg13.read_unread, harg14.read_unread, harg15.read_unread,
    harg16.read_unread, harg17.read_unread, harg18.read_unread, harg19.read_unread, harg20.read_unread,
    harg21.read_unread, harg22.read_unread, harg23.read_unread, harg24.read_unread, harg25.read_unread,
    View.ld_unit_zero (S := S4096x5) hz,
    View.ld_unit_zero (S := S64x16) hz,
    View.ld_unit_zero (S := S68x64) hz,
    View.ld_unit_zero (S := S64) hz1,
    View.ld_unit_zero (S := S64x128) hz,
    View.ld_unit_zero (S := S128) hz1,
    View.ld_unit_zero (S := S64x300) hz,
    View.ld_unit_zero (S := S300) hz1]

/-- The first point leaves in the scratch array of the third layer's weights what its definition says. -/
theorem scratch_A_2 (hc0 : cond0_0 i) :
    sout0_A_2 c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17
      arg18 harg18 arg19 harg19 arg20 harg20 arg21 harg21 arg22 harg22 arg23 harg23 arg24 harg24 arg25 harg25
      hc0 x0 x1 x2 x3 x4 x5 x6 x7 x8 x9 x10 x11 x12 x13 x14 x15
      = scW3 x11 := by
  unfold sout0_A_2
  rw [View.read_writes_eq_canon _ _ _ (scover0_A_2 c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17
      arg18 harg18 arg19 harg19 arg20 harg20 arg21 harg21 arg22 harg22 arg23 harg23 arg24 harg24 arg25 harg25
      hc0 x0 x1 x2 x3 x4 x5 x6 x7 x8 x9 x10 x11 x12 x13 x14 x15)]
  unfold kernelRun0_A scW3 w3Tail
  dsimp only
  sl_unfold_words
  rw [View.canon_unit_zero hz]
  simp only [View.readAt_eq_ld,
    harg1.read_unread, harg2.read_unread, harg3.read_unread, harg4.read_unread, harg5.read_unread,
    harg6.read_unread, harg7.read_unread, harg8.read_unread, harg9.read_unread, harg10.read_unread,
    harg11.read_unread, harg12.read_unread, harg13.read_unread, harg14.read_unread, harg15.read_unread,
    harg16.read_unread, harg17.read_unread, harg18.read_unread, harg19.read_unread, harg20.read_unread,
    harg21.read_unread, harg22.read_unread, harg23.read_unread, harg24.read_unread, harg25.read_unread,
    View.ld_unit_zero (S := S4096x5) hz,
    View.ld_unit_zero (S := S64x16) hz,
    View.ld_unit_zero (S := S68x64) hz,
    View.ld_unit_zero (S := S64) hz1,
    View.ld_unit_zero (S := S64x128) hz,
    View.ld_unit_zero (S := S128) hz1,
    View.ld_unit_zero (S := S64x300) hz,
    View.ld_unit_zero (S := S300) hz1]

/-- The first point leaves in the scratch array of the output layer's weights what its definition says. -/
theorem scratch_A_3 (hc0 : cond0_0 i) :
    sout0_A_3 c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17
      arg18 harg18 arg19 harg19 arg20 harg20 arg21 harg21 arg22 harg22 arg23 harg23 arg24 harg24 arg25 harg25
      hc0 x0 x1 x2 x3 x4 x5 x6 x7 x8 x9 x10 x11 x12 x13 x14 x15
      = scW4 x14 := by
  unfold sout0_A_3
  rw [View.read_writes_eq_canon _ _ _ (scover0_A_3 c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17
      arg18 harg18 arg19 harg19 arg20 harg20 arg21 harg21 arg22 harg22 arg23 harg23 arg24 harg24 arg25 harg25
      hc0 x0 x1 x2 x3 x4 x5 x6 x7 x8 x9 x10 x11 x12 x13 x14 x15)]
  unfold kernelRun0_A scW4
  dsimp only
  sl_unfold_words
  rw [View.canon_unit_zero hz]
  simp only [View.readAt_eq_ld,
    harg1.read_unread, harg2.read_unread, harg3.read_unread, harg4.read_unread, harg5.read_unread,
    harg6.read_unread, harg7.read_unread, harg8.read_unread, harg9.read_unread, harg10.read_unread,
    harg11.read_unread, harg12.read_unread, harg13.read_unread, harg14.read_unread, harg15.read_unread,
    harg16.read_unread, harg17.read_unread, harg18.read_unread, harg19.read_unread, harg20.read_unread,
    harg21.read_unread, harg22.read_unread, harg23.read_unread, harg24.read_unread, harg25.read_unread,
    View.ld_unit_zero (S := S4096x5) hz,
    View.ld_unit_zero (S := S64x16) hz,
    View.ld_unit_zero (S := S68x64) hz,
    View.ld_unit_zero (S := S64) hz1,
    View.ld_unit_zero (S := S64x128) hz,
    View.ld_unit_zero (S := S128) hz1,
    View.ld_unit_zero (S := S64x300) hz,
    View.ld_unit_zero (S := S300) hz1]

/-- The first point leaves in the scratch array of the first shift what its definition says. -/
theorem scratch_A_4 (hc0 : cond0_0 i) :
    sout0_A_4 c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17
      arg18 harg18 arg19 harg19 arg20 harg20 arg21 harg21 arg22 harg22 arg23 harg23 arg24 harg24 arg25 harg25
      hc0 x0 x1 x2 x3 x4 x5 x6 x7 x8 x9 x10 x11 x12 x13 x14 x15
      = scC1 x6 x7 := by
  unfold sout0_A_4
  rw [View.read_writes_eq_canon _ _ _ (scover0_A_4 c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17
      arg18 harg18 arg19 harg19 arg20 harg20 arg21 harg21 arg22 harg22 arg23 harg23 arg24 harg24 arg25 harg25
      hc0 x0 x1 x2 x3 x4 x5 x6 x7 x8 x9 x10 x11 x12 x13 x14 x15)]
  unfold kernelRun0_A scC1
  dsimp only
  sl_unfold_words
  rw [View.canon_unit_zero hz]
  simp only [View.readAt_eq_ld,
    harg1.read_unread, harg2.read_unread, harg3.read_unread, harg4.read_unread, harg5.read_unread,
    harg6.read_unread, harg7.read_unread, harg8.read_unread, harg9.read_unread, harg10.read_unread,
    harg11.read_unread, harg12.read_unread, harg13.read_unread, harg14.read_unread, harg15.read_unread,
    harg16.read_unread, harg17.read_unread, harg18.read_unread, harg19.read_unread, harg20.read_unread,
    harg21.read_unread, harg22.read_unread, harg23.read_unread, harg24.read_unread, harg25.read_unread,
    View.ld_unit_zero (S := S4096x5) hz,
    View.ld_unit_zero (S := S64x16) hz,
    View.ld_unit_zero (S := S68x64) hz,
    View.ld_unit_zero (S := S64) hz1,
    View.ld_unit_zero (S := S64x128) hz,
    View.ld_unit_zero (S := S128) hz1,
    View.ld_unit_zero (S := S64x300) hz,
    View.ld_unit_zero (S := S300) hz1]

/-- The first point leaves in the scratch array of the second shift what its definition says. -/
theorem scratch_A_5 (hc0 : cond0_0 i) :
    sout0_A_5 c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17
      arg18 harg18 arg19 harg19 arg20 harg20 arg21 harg21 arg22 harg22 arg23 harg23 arg24 harg24 arg25 harg25
      hc0 x0 x1 x2 x3 x4 x5 x6 x7 x8 x9 x10 x11 x12 x13 x14 x15
      = scC2 x9 x10 := by
  unfold sout0_A_5
  rw [View.read_writes_eq_canon _ _ _ (scover0_A_5 c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17
      arg18 harg18 arg19 harg19 arg20 harg20 arg21 harg21 arg22 harg22 arg23 harg23 arg24 harg24 arg25 harg25
      hc0 x0 x1 x2 x3 x4 x5 x6 x7 x8 x9 x10 x11 x12 x13 x14 x15)]
  unfold kernelRun0_A scC2
  dsimp only
  sl_unfold_words
  rw [View.canon_unit_zero hz]
  simp only [View.readAt_eq_ld,
    harg1.read_unread, harg2.read_unread, harg3.read_unread, harg4.read_unread, harg5.read_unread,
    harg6.read_unread, harg7.read_unread, harg8.read_unread, harg9.read_unread, harg10.read_unread,
    harg11.read_unread, harg12.read_unread, harg13.read_unread, harg14.read_unread, harg15.read_unread,
    harg16.read_unread, harg17.read_unread, harg18.read_unread, harg19.read_unread, harg20.read_unread,
    harg21.read_unread, harg22.read_unread, harg23.read_unread, harg24.read_unread, harg25.read_unread,
    View.ld_unit_zero (S := S4096x5) hz,
    View.ld_unit_zero (S := S64x16) hz,
    View.ld_unit_zero (S := S68x64) hz,
    View.ld_unit_zero (S := S64) hz1,
    View.ld_unit_zero (S := S64x128) hz,
    View.ld_unit_zero (S := S128) hz1,
    View.ld_unit_zero (S := S64x300) hz,
    View.ld_unit_zero (S := S300) hz1]

/-- The first point leaves in the scratch array of the third shift what its definition says. -/
theorem scratch_A_6 (hc0 : cond0_0 i) :
    sout0_A_6 c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17
      arg18 harg18 arg19 harg19 arg20 harg20 arg21 harg21 arg22 harg22 arg23 harg23 arg24 harg24 arg25 harg25
      hc0 x0 x1 x2 x3 x4 x5 x6 x7 x8 x9 x10 x11 x12 x13 x14 x15
      = scC3 x12 x13 := by
  unfold sout0_A_6
  rw [View.read_writes_eq_canon _ _ _ (scover0_A_6 c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17
      arg18 harg18 arg19 harg19 arg20 harg20 arg21 harg21 arg22 harg22 arg23 harg23 arg24 harg24 arg25 harg25
      hc0 x0 x1 x2 x3 x4 x5 x6 x7 x8 x9 x10 x11 x12 x13 x14 x15)]
  unfold kernelRun0_A scC3
  dsimp only
  sl_unfold_words
  rw [View.canon_unit_zero hz]
  simp only [View.readAt_eq_ld,
    harg1.read_unread, harg2.read_unread, harg3.read_unread, harg4.read_unread, harg5.read_unread,
    harg6.read_unread, harg7.read_unread, harg8.read_unread, harg9.read_unread, harg10.read_unread,
    harg11.read_unread, harg12.read_unread, harg13.read_unread, harg14.read_unread, harg15.read_unread,
    harg16.read_unread, harg17.read_unread, harg18.read_unread, harg19.read_unread, harg20.read_unread,
    harg21.read_unread, harg22.read_unread, harg23.read_unread, harg24.read_unread, harg25.read_unread,
    View.ld_unit_zero (S := S4096x5) hz,
    View.ld_unit_zero (S := S64x16) hz,
    View.ld_unit_zero (S := S68x64) hz,
    View.ld_unit_zero (S := S64) hz1,
    View.ld_unit_zero (S := S64x128) hz,
    View.ld_unit_zero (S := S128) hz1,
    View.ld_unit_zero (S := S64x300) hz,
    View.ld_unit_zero (S := S300) hz1]

/-- The first point leaves in the scratch array of the output bias what its definition says. -/
theorem scratch_A_7 (hc0 : cond0_0 i) :
    sout0_A_7 c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17
      arg18 harg18 arg19 harg19 arg20 harg20 arg21 harg21 arg22 harg22 arg23 harg23 arg24 harg24 arg25 harg25
      hc0 x0 x1 x2 x3 x4 x5 x6 x7 x8 x9 x10 x11 x12 x13 x14 x15
      = scB4 x15 := by
  unfold sout0_A_7
  rw [View.read_writes_eq_canon _ _ _ (scover0_A_7 c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17
      arg18 harg18 arg19 harg19 arg20 harg20 arg21 harg21 arg22 harg22 arg23 harg23 arg24 harg24 arg25 harg25
      hc0 x0 x1 x2 x3 x4 x5 x6 x7 x8 x9 x10 x11 x12 x13 x14 x15)]
  unfold kernelRun0_A scB4
  dsimp only
  sl_unfold_words
  rw [View.canon_unit_zero hz]
  simp only [View.readAt_eq_ld,
    harg1.read_unread, harg2.read_unread, harg3.read_unread, harg4.read_unread, harg5.read_unread,
    harg6.read_unread, harg7.read_unread, harg8.read_unread, harg9.read_unread, harg10.read_unread,
    harg11.read_unread, harg12.read_unread, harg13.read_unread, harg14.read_unread, harg15.read_unread,
    harg16.read_unread, harg17.read_unread, harg18.read_unread, harg19.read_unread, harg20.read_unread,
    harg21.read_unread, harg22.read_unread, harg23.read_unread, harg24.read_unread, harg25.read_unread,
    View.ld_unit_zero (S := S4096x5) hz,
    View.ld_unit_zero (S := S64x16) hz,
    View.ld_unit_zero (S := S68x64) hz,
    View.ld_unit_zero (S := S64) hz1,
    View.ld_unit_zero (S := S64x128) hz,
    View.ld_unit_zero (S := S128) hz1,
    View.ld_unit_zero (S := S64x300) hz,
    View.ld_unit_zero (S := S300) hz1]

end Cert.KernelIdeal.Block

end

end
-- ==== Proof.Array.lean ====
/-
  What the kernel's result array holds, at any row and column: the block the row's grid point computed, from that
  point's 4096 rows of `x` and from the scratch arrays the first point filled out of the whole weights.
-/
module

public import proofs.«01_k».proof.Proof.Block
public import proofs.«01_k».proof.Proof.Gen.KernelIdeal.Value
public import Idealize.ShloMosaic.Lib.Pointwise

@[expose] public section

set_option maxRecDepth 16384

noncomputable section

namespace Cert.KernelIdeal.Array

open Idealize.ShloMosaic Idealize.ShloMosaic.TcCoe Idealize.SL.Sem Cert.KernelIdeal.Gen Cert.KernelIdeal.Block
open Cert.KernelIdeal.Value

variable (m : (ℓ : Loc nD τ sig) → Buf (Elt Ideal) ℓ)

/-- The rows of `x` a grid point reads. -/
def xBlock (c : Dev nD) (t : Fin cfg0.N) : Vec Ideal S4096x5 .f32 := iblk m c 0 t

/-- Row `p` of point `t`'s block of `x` is row `4096 t + p` of `x`. -/
theorem xBlock_apply (c : Dev nD) (t : Fin cfg0.N) (p : Fin 4096) (q : Fin 5) (r : Fin 16384)
    (hr : r.val = 4096 * t.val + p.val) :
    xBlock m c t (ix2 p q) = m ((c : Thread nD τ).loc main_arg0) (ix2 r q) := by
  have hi : win0_0.index t 0 = t.val ∧ win0_0.index t 1 = 0 :=
    (by decide +kernel : ∀ t : Fin grid0.N, win0_0.index t 0 = t.val ∧ win0_0.index t 1 = 0) t
  unfold xBlock iblk
  rw [View.read_apply]
  show V m c main_arg0 _ = m ((c : Thread nD τ).loc main_arg0) _
  unfold V
  congr 1
  funext a
  apply Fin.ext
  match a with
  | ⟨0, _⟩ => show win0_0.index t 0 * 4096 + 1 * p.val = r.val; rw [hi.1, hr]; omega
  | ⟨1, _⟩ => show win0_0.index t 1 * 5 + 1 * q.val = q.val; rw [hi.2]; omega

/-- A window whose block is its whole array reads the array: every weight and embedding table, at every point. -/
theorem weights_whole (c : Dev nD) (t : Fin cfg0.N) :
    (iblk m c 1 t : Vec Ideal S90x16 .f32) = m ((c : Thread nD τ).loc main_arg1) ∧
    (iblk m c 2 t : Vec Ideal S360x16 .f32) = m ((c : Thread nD τ).loc main_arg2) ∧
    (iblk m c 3 t : Vec Ideal S64x16 .f32) = m ((c : Thread nD τ).loc main_arg3) ∧
    (iblk m c 4 t : Vec Ideal S8192x16 .f32) = m ((c : Thread nD τ).loc main_arg4) ∧
    (iblk m c 5 t : Vec Ideal S68x64 .f32) = m ((c : Thread nD τ).loc main_arg5) ∧
    (iblk m c 6 t : Vec Ideal S64 .f32) = m ((c : Thread nD τ).loc main_arg6) ∧
    (iblk m c 7 t : Vec Ideal S64 .f32) = m ((c : Thread nD τ).loc main_arg7) ∧
    (iblk m c 8 t : Vec Ideal S64x128 .f32) = m ((c : Thread nD τ).loc main_arg8) ∧
    (iblk m c 9 t : Vec Ideal S128 .f32) = m ((c : Thread nD τ).loc main_arg9) ∧
    (iblk m c 10 t : Vec Ideal S128 .f32) = m ((c : Thread nD τ).loc main_arg10) ∧
    (iblk m c 11 t : Vec Ideal S196x64 .f32) = m ((c : Thread nD τ).loc main_arg11) ∧
    (iblk m c 12 t : Vec Ideal S64 .f32) = m ((c : Thread nD τ).loc main_arg12) ∧
    (iblk m c 13 t : Vec Ideal S64 .f32) = m ((c : Thread nD τ).loc main_arg13) ∧
    (iblk m c 14 t : Vec Ideal S64x300 .f32) = m ((c : Thread nD τ).loc main_arg14) ∧
    (iblk m c 15 t : Vec Ideal S300 .f32) = m ((c : Thread nD τ).loc main_arg15) := by
  refine ⟨?_, ?_, ?_, ?_, ?_, ?_, ?_, ?_, ?_, ?_, ?_, ?_, ?_, ?_, ?_⟩
  · exact Memref.read_access_unit_zero (Elt Ideal) main_arg1 (funext fun a => by fin_cases a <;> rfl)
      (fun a => by fin_cases a <;> exact le_rfl) _
  · exact Memref.read_access_unit_zero (Elt Ideal) main_arg2 (funext fun a => by fin_cases a <;> rfl)
      (fun a => by fin_cases a <;> exact le_rfl) _
  · exact Memref.read_access_unit_zero (Elt Ideal) main_arg3 (funext fun a => by fin_cases a <;> rfl)
      (fun a => by fin_cases a <;> exact le_rfl) _
  · exact Memref.read_access_unit_zero (Elt Ideal) main_arg4 (funext fun a => by fin_cases a <;> exact Nat.zero_mul _)
      (fun a => by fin_cases a <;> (show 0 * _ + _ ≤ _; rw [Nat.zero_mul, Nat.zero_add])) _
  · exact Memref.read_access_unit_zero (Elt Ideal) main_arg5 (funext fun a => by fin_cases a <;> rfl)
      (fun a => by fin_cases a <;> exact le_rfl) _
  · exact Memref.read_access_unit_zero (Elt Ideal) main_arg6 (funext fun a => by fin_cases a <;> rfl)
      (fun a => by fin_cases a <;> exact le_rfl) _
  · exact Memref.read_access_unit_zero (Elt Ideal) main_arg7 (funext fun a => by fin_cases a <;> rfl)
      (fun a => by fin_cases a <;> exact le_rfl) _
  · exact Memref.read_access_unit_zero (Elt Ideal) main_arg8 (funext fun a => by fin_cases a <;> rfl)
      (fun a => by fin_cases a <;> exact le_rfl) _
  · exact Memref.read_access_unit_zero (Elt Ideal) main_arg9 (funext fun a => by fin_cases a <;> rfl)
      (fun a => by fin_cases a <;> exact le_rfl) _
  · exact Memref.read_access_unit_zero (Elt Ideal) main_arg10 (funext fun a => by fin_cases a <;> rfl)
      (fun a => by fin_cases a <;> exact le_rfl) _
  · exact Memref.read_access_unit_zero (Elt Ideal) main_arg11 (funext fun a => by fin_cases a <;> rfl)
      (fun a => by fin_cases a <;> exact le_rfl) _
  · exact Memref.read_access_unit_zero (Elt Ideal) main_arg12 (funext fun a => by fin_cases a <;> rfl)
      (fun a => by fin_cases a <;> exact le_rfl) _
  · exact Memref.read_access_unit_zero (Elt Ideal) main_arg13 (funext fun a => by fin_cases a <;> rfl)
      (fun a => by fin_cases a <;> exact le_rfl) _
  · exact Memref.read_access_unit_zero (Elt Ideal) main_arg14 (funext fun a => by fin_cases a <;> rfl)
      (fun a => by fin_cases a <;> exact le_rfl) _
  · exact Memref.read_access_unit_zero (Elt Ideal) main_arg15 (funext fun a => by fin_cases a <;> rfl)
      (fun a => by fin_cases a <;> exact le_rfl) _

/-- The block of the result point `t` computes, from its rows of `x` and the weights as the kernel was given them. -/
def pointVal (c : Dev nD) (t : Fin cfg0.N) : Vec Ideal S4096x300 .f32 :=
  blockVal (xBlock m c t)
    (scTables (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg11)))
    (scW2 (m ((c : Thread nD τ).loc main_arg8)))
    (scW3 (m ((c : Thread nD τ).loc main_arg11)))
    (scW4 (m ((c : Thread nD τ).loc main_arg14)))
    (scC1 (m ((c : Thread nD τ).loc main_arg6)) (m ((c : Thread nD τ).loc main_arg7)))
    (scC2 (m ((c : Thread nD τ).loc main_arg9)) (m ((c : Thread nD τ).loc main_arg10)))
    (scC3 (m ((c : Thread nD τ).loc main_arg12)) (m ((c : Thread nD τ).loc main_arg13)))
    (scB4 (m ((c : Thread nD τ).loc main_arg15)))

/-- After every point the result's staging buffer holds that block, and the scratch arrays what the first point put in
    them: by induction on the point. -/
theorem outs_eq (c : Dev nD) : ∀ (n : ℕ) (h : n < cfg0.N), outsAt0 m c n h = (pointVal m c ⟨n, h⟩,
    scTables (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg11)),
    scW2 (m ((c : Thread nD τ).loc main_arg8)),
    scW3 (m ((c : Thread nD τ).loc main_arg11)),
    scW4 (m ((c : Thread nD τ).loc main_arg14)),
    scC1 (m ((c : Thread nD τ).loc main_arg6)) (m ((c : Thread nD τ).loc main_arg7)),
    scC2 (m ((c : Thread nD τ).loc main_arg9)) (m ((c : Thread nD τ).loc main_arg10)),
    scC3 (m ((c : Thread nD τ).loc main_arg12)) (m ((c : Thread nD τ).loc main_arg13)),
    scB4 (m ((c : Thread nD τ).loc main_arg15)))
  | 0, h => by
    obtain ⟨e1, e2, e3, e4, e5, e6, e7, e8, e9, e10, e11, e12, e13, e14, e15⟩ := weights_whole m c ⟨0, h⟩
    refine (outsAt0_A m c ⟨0, h⟩ rfl).trans ?_
    rw [out_A, scratch_A_0, scratch_A_1, scratch_A_2, scratch_A_3, scratch_A_4, scratch_A_5, scratch_A_6, scratch_A_7]
    rw [e1, e2, e3, e4, e5, e6, e7, e8, e9, e10, e11, e12, e13, e14, e15]
    rfl
  | n + 1, h => by
    have hN : cfg0.N = 4 := N_0
    have hB : ¬(⟨n + 1, h⟩ : Fin cfg0.N).val % 4 = 0 := by dsimp only; omega
    refine (outsAt0_B m c ⟨n + 1, h⟩ hB).trans ?_
    rw [out_B]
    show (blockVal (xBlock m c ⟨n + 1, h⟩) (outsAt0 m c n _).2.1 (outsAt0 m c n _).2.2.1 (outsAt0 m c n _).2.2.2.1
      (outsAt0 m c n _).2.2.2.2.1 (outsAt0 m c n _).2.2.2.2.2.1 (outsAt0 m c n _).2.2.2.2.2.2.1
      (outsAt0 m c n _).2.2.2.2.2.2.2.1 (outsAt0 m c n _).2.2.2.2.2.2.2.2, (outsAt0 m c n _).2) = _
    rw [outs_eq c n]
    rfl

/-- THE RESULT ARRAY at row `r`, column `j`: row `r % 4096` of the block of point `r / 4096`. -/
theorem result_apply (c : Dev nD) (r : Fin 16384) (j : Fin 300) (t : Fin cfg0.N) (p : Fin 4096)
    (hr : r.val = 4096 * t.val + p.val) :
    G16 m c (ix2 r j) = pointVal m c t (ix2 p j) := by
  have hN : cfg0.N = 4 := N_0
  have hpt : pt16Of (ix2 r j) = t.val := by
    show 1 * (r.val / 4096 - 0) + 1 * (j.val / 300 - 0) = t.val
    omega
  have hloc : loc16Of (ix2 r j) = ix2 p j := by
    funext a
    apply Fin.ext
    match a with
    | ⟨0, _⟩ => show r.val % 4096 = p.val; omega
    | ⟨1, _⟩ => show j.val % 300 = j.val; omega
  have h : pt16Of (ix2 r j) < cfg0.N := by rw [hpt]; exact t.isLt
  unfold G16
  rw [dif_pos h, ← outsAt0_sweep m c _ h, outs_eq, hloc]
  show pointVal m c ⟨pt16Of (ix2 r j), h⟩ _ = _
  congr 2

end Cert.KernelIdeal.Array

end

end
-- ==== Proof.Arith.lean ====
/-
  The arithmetic the equation needs, over the extended reals and about no program: the scale `k`, the radial basis
  function in base two and in base e, and scaling a sum by `k`.
-/
module

public import Idealize.ShloMosaic.PureOps.Ideal

@[expose] public section

noncomputable section

namespace RbfMlp

open Idealize.ShloMosaic

/-- The single-precision number nearest to π: the one the reference multiplies the squared distance by. -/
def piF : ℝ := 13176795 / 4194304

/-- The kernel's scale: `√(π / log 2)`. -/
def kR : ℝ := Real.sqrt (13176795 / 4194304 * (Real.log 2)⁻¹)

theorem log_two_pos : 0 < Real.log 2 := Real.log_pos (by norm_num)

/-- The scale is positive. -/
theorem kR_pos : 0 < kR :=
  Real.sqrt_pos.mpr (mul_pos (by norm_num) (inv_pos.mpr log_two_pos))

/-- The scale's defining property: `log 2 · k² = π`. -/
theorem log_two_mul_sq : Real.log 2 * (kR * kR) = piF := by
  have h := log_two_pos.ne'
  unfold kR piF
  rw [Real.mul_self_sqrt (mul_nonneg (by norm_num) (inv_nonneg.mpr log_two_pos.le))]
  field_simp

/-- The radial basis function of a signed distance: `exp(-π d²)`. -/
def rbf (d : EReal) : EReal := Ideal.exp (((-piF : ℝ) : EReal) * (d * d))

/-- `(a + b) k = a k + b k` for the positive real `k`, whatever `a` and `b`. -/
theorem add_mul_k (a b : EReal) : (a + b) * (kR : EReal) = a * kR + b * kR :=
  EReal.right_distrib_of_nonneg_of_ne_top (EReal.coe_nonneg.mpr kR_pos.le) (EReal.coe_ne_top _) a b

/-- A sum scaled by `k` is the sum of the scaled terms. -/
theorem sum_mul_k {ι : Type} (s : Finset ι) (f : ι → EReal) :
    ∑ i ∈ s, f i * (kR : EReal) = (∑ i ∈ s, f i) * kR := by
  classical
  induction s using Finset.induction_on with
  | empty => simp
  | insert a s ha ih => rw [Finset.sum_insert ha, Finset.sum_insert ha, ih, add_mul_k]

/-- The square of the scaled distance the kernel forms, `(A k - (r - b) k)²`, is `k²` times the square of the
    distance the reference forms, `(A + b) - r`: for infinite values both squares are `⊤`. -/
theorem scaled_sq (A b r : EReal) :
    (A * (kR : EReal) - (r - b) * kR) * (A * kR - (r - b) * kR)
      = ((kR * kR : ℝ) : EReal) * ((A + b - r) * (A + b - r)) := by
  have hk := kR_pos
  have hkk := mul_pos hk hk
  induction A using EReal.rec <;> induction b using EReal.rec <;> induction r using EReal.rec
  case coe.coe.coe A b r => norm_cast; ring
  case top.coe.coe b r =>
    rw [← EReal.coe_sub, ← EReal.coe_mul, EReal.top_mul_coe_of_pos hk, EReal.top_sub_coe, EReal.top_add_coe,
      EReal.top_sub_coe, EReal.top_mul_top, EReal.coe_mul_top_of_pos hkk]
  all_goals
    simp [EReal.top_mul_coe_of_pos, EReal.bot_mul_coe_of_pos, EReal.coe_mul_top_of_pos, hk, hkk,
      EReal.coe_mul_bot_of_pos, -EReal.coe_mul, ← EReal.coe_sub, ← EReal.coe_add]
    try simp [← EReal.coe_mul, hk, hkk, EReal.coe_mul_top_of_pos]

/-- THE RADIAL BASIS FUNCTION IN BASE TWO: two to minus the scaled square is `exp(-π d²)`. -/
theorem exp2_scaled (A b r : EReal) :
    Ideal.exp2 (0 - (A * (kR : EReal) - (r - b) * kR) * (A * kR - (r - b) * kR)) = rbf (A + b - r) := by
  rw [scaled_sq]
  unfold rbf
  generalize A + b - r = d
  have hkk := mul_pos kR_pos kR_pos
  have hp : 0 < piF := by unfold piF; norm_num
  induction d using EReal.rec with
  | bot =>
    rw [EReal.bot_mul_bot, EReal.coe_mul_top_of_pos hkk, EReal.coe_mul_top_of_neg (neg_lt_zero.mpr hp)]
    simp
  | top =>
    rw [EReal.top_mul_top, EReal.coe_mul_top_of_pos hkk, EReal.coe_mul_top_of_neg (neg_lt_zero.mpr hp)]
    simp
  | coe d =>
    rw [zero_sub, ← EReal.coe_mul, ← EReal.coe_mul, ← EReal.coe_mul, ← EReal.coe_neg]
    show ((Real.rpow 2 _ : ℝ) : EReal) = ((Real.exp _ : ℝ) : EReal)
    congr 1
    refine (Real.rpow_def_of_pos (by norm_num) _).trans ?_
    rw [← log_two_mul_sq]
    congr 1
    ring

end RbfMlp

end

end
-- ==== Proof.Net.lean ====
/-
  The network the two programs compute, at one row of the input, as plain mathematics over the extended reals: the
  embedded row of 68 numbers, three layers of radial basis functions and a linear output layer. And the two
  regroupings of finite sums the equation needs.
-/
module

public import proofs.«01_k».proof.Proof.Arith

@[expose] public section

noncomputable section

namespace RbfMlp

open Idealize.ShloMosaic

/-- The embedded row: latitude, its fraction, longitude, its fraction, date, sea surface temperature, its fraction and
    the last input column. -/
def embRow (lat lon date sst : Fin 16 → EReal) (f0 f1 f3 x4 : EReal) (i : Fin 68) : EReal :=
  if h : i.val < 16 then lat ⟨i.val, h⟩
  else if i.val < 17 then f0
  else if h : i.val < 33 then lon ⟨i.val - 17, by omega⟩
  else if i.val < 34 then f1
  else if h : i.val < 50 then date ⟨i.val - 34, by omega⟩
  else if h : i.val < 66 then sst ⟨i.val - 50, by omega⟩
  else if i.val < 67 then f3
  else x4

/-- The weights, biases and reference points of the network. -/
structure Params where
  W1 : Fin 68 → Fin 64 → EReal
  b1 : Fin 64 → EReal
  r1 : Fin 64 → EReal
  W2 : Fin 64 → Fin 128 → EReal
  b2 : Fin 128 → EReal
  r2 : Fin 128 → EReal
  W3 : Fin 196 → Fin 64 → EReal
  b3 : Fin 64 → EReal
  r3 : Fin 64 → EReal
  W4 : Fin 64 → Fin 300 → EReal
  b4 : Fin 300 → EReal

namespace Params

variable (P : Params) (e : Fin 68 → EReal)

/-- The first layer's output. -/
def h1 (q : Fin 64) : EReal := rbf (∑ i, e i * P.W1 i q + P.b1 q - P.r1 q)

/-- The second layer's output. -/
def h2 (p : Fin 128) : EReal := rbf (∑ q, P.h1 e q * P.W2 q p + P.b2 p - P.r2 p)

/-- The third layer's output: it reads the embedded row again beside the second layer's output. -/
def h3 (q : Fin 64) : EReal :=
  rbf (∑ i : Fin 68, e i * P.W3 ⟨i.val, by omega⟩ q + ∑ p : Fin 128, P.h2 e p * P.W3 ⟨68 + p.val, by omega⟩ q
    + P.b3 q - P.r3 q)

/-- The network's output. -/
def out (j : Fin 300) : EReal := ∑ q, P.h3 e q * P.W4 q j + P.b4 j

end Params

/-! ### Sums regrouped -/

/-- A sum of 260 terms: four runs of 64 and four single terms. -/
theorem sum260 (f : Fin 260 → EReal) :
    ∑ j, f j = ∑ j : Fin 64, f ⟨j.val, by omega⟩ + ∑ j : Fin 64, f ⟨64 + j.val, by omega⟩
      + ∑ j : Fin 64, f ⟨128 + j.val, by omega⟩ + ∑ j : Fin 64, f ⟨192 + j.val, by omega⟩
      + f 256 + f 257 + f 258 + f 259 := by
  rw [Fin.sum_univ_castSucc (n := 259), Fin.sum_univ_castSucc (n := 258), Fin.sum_univ_castSucc (n := 257),
    Fin.sum_univ_castSucc (n := 256), Fin.sum_univ_add (a := 192) (b := 64), Fin.sum_univ_add (a := 128) (b := 64),
    Fin.sum_univ_add (a := 64) (b := 64)]
  rfl

/-- A sum of 68 terms in the runs the embedded row is made of. -/
theorem sum68 (f : Fin 68 → EReal) :
    ∑ i, f i = ∑ q : Fin 16, f ⟨q.val, by omega⟩ + f 16 + ∑ q : Fin 16, f ⟨17 + q.val, by omega⟩ + f 33
      + ∑ q : Fin 16, f ⟨34 + q.val, by omega⟩ + ∑ q : Fin 16, f ⟨50 + q.val, by omega⟩ + f 66 + f 67 := by
  rw [Fin.sum_univ_castSucc (n := 67), Fin.sum_univ_castSucc (n := 66), Fin.sum_univ_add (a := 50) (b := 16),
    Fin.sum_univ_add (a := 34) (b := 16), Fin.sum_univ_castSucc (n := 33), Fin.sum_univ_add (a := 17) (b := 16),
    Fin.sum_univ_castSucc (n := 16)]
  rfl

/-- A sum of 196 terms: 68 and 128. -/
theorem sum196 (f : Fin 196 → EReal) :
    ∑ i, f i = ∑ i : Fin 68, f ⟨i.val, by omega⟩ + ∑ p : Fin 128, f ⟨68 + p.val, by omega⟩ := by
  rw [Fin.sum_univ_add (a := 68) (b := 128)]
  rfl

/-- The embedded row against a column of weights. -/
theorem embRow_sum (lat lon date sst : Fin 16 → EReal) (f0 f1 f3 x4 : EReal) (w : Fin 68 → EReal) :
    ∑ i, embRow lat lon date sst f0 f1 f3 x4 i * w i
      = ∑ q : Fin 16, lat q * w ⟨q.val, by omega⟩ + f0 * w 16 + ∑ q : Fin 16, lon q * w ⟨17 + q.val, by omega⟩
        + f1 * w 33 + ∑ q : Fin 16, date q * w ⟨34 + q.val, by omega⟩ + ∑ q : Fin 16, sst q * w ⟨50 + q.val, by omega⟩
        + f3 * w 66 + x4 * w 67 := by
  rw [sum68]
  have hlat (q : Fin 16) : embRow lat lon date sst f0 f1 f3 x4 ⟨q.val, by omega⟩ = lat q := by
    simp [embRow]
  have hlon (q : Fin 16) : embRow lat lon date sst f0 f1 f3 x4 ⟨17 + q.val, by omega⟩ = lon q := by
    simp only [embRow]
    rw [dif_neg (by omega), if_neg (by omega), dif_pos (by omega)]
    exact congrArg lon (Fin.ext (by simp))
  have hdate (q : Fin 16) : embRow lat lon date sst f0 f1 f3 x4 ⟨34 + q.val, by omega⟩ = date q := by
    simp only [embRow]
    rw [dif_neg (by omega), if_neg (by omega), dif_neg (by omega), if_neg (by omega), dif_pos (by omega)]
    exact congrArg date (Fin.ext (by simp))
  have hsst (q : Fin 16) : embRow lat lon date sst f0 f1 f3 x4 ⟨50 + q.val, by omega⟩ = sst q := by
    simp only [embRow]
    rw [dif_neg (by omega), if_neg (by omega), dif_neg (by omega), if_neg (by omega), dif_neg (by omega),
      dif_pos (by omega)]
    exact congrArg sst (Fin.ext (by simp))
  simp only [hlat, hlon, hdate, hsst]
  rfl

/-- THE ONE-HOT LOOKUP: a row of 260 numbers that are one at the four looked-up places of the four runs of 64, zero
    elsewhere, and then four plain numbers, against a column of 260 terms, is the four looked-up terms and the four
    plain products. -/
theorem onehot_sum (s T : Fin 260 → EReal) (i0 i1 i2 i3 : Fin 64)
    (h0 : ∀ j : Fin 64, s ⟨j.val, by omega⟩ = if j = i0 then 1 else 0)
    (h1 : ∀ j : Fin 64, s ⟨64 + j.val, by omega⟩ = if j = i1 then 1 else 0)
    (h2 : ∀ j : Fin 64, s ⟨128 + j.val, by omega⟩ = if j = i2 then 1 else 0)
    (h3 : ∀ j : Fin 64, s ⟨192 + j.val, by omega⟩ = if j = i3 then 1 else 0) :
    ∑ j, s j * T j = T ⟨i0.val, by omega⟩ + T ⟨64 + i1.val, by omega⟩ + T ⟨128 + i2.val, by omega⟩
      + T ⟨192 + i3.val, by omega⟩ + s 256 * T 256 + s 257 * T 257 + s 258 * T 258 + s 259 * T 259 := by
  rw [sum260]
  simp only [h0, h1, h2, h3, ite_mul, one_mul, zero_mul, Finset.sum_ite_eq', Finset.mem_univ, if_true]

/-- THE FUSED TABLES: when the looked-up terms are the embeddings already multiplied by a column of weights and scaled
    by `k`, the one-hot row against them is the embedded row against that column, scaled by `k`. -/
theorem fused_sum (s T : Fin 260 → EReal) (i0 i1 i2 i3 : Fin 64) (lat lon date sst : Fin 64 → Fin 16 → EReal)
    (f0 f1 f3 x4 : EReal) (w : Fin 68 → EReal)
    (h0 : ∀ j : Fin 64, s ⟨j.val, by omega⟩ = if j = i0 then 1 else 0)
    (h1 : ∀ j : Fin 64, s ⟨64 + j.val, by omega⟩ = if j = i1 then 1 else 0)
    (h2 : ∀ j : Fin 64, s ⟨128 + j.val, by omega⟩ = if j = i2 then 1 else 0)
    (h3 : ∀ j : Fin 64, s ⟨192 + j.val, by omega⟩ = if j = i3 then 1 else 0)
    (h256 : s 256 = f0) (h257 : s 257 = f1) (h258 : s 258 = f3) (h259 : s 259 = x4)
    (t0 : ∀ j : Fin 64, T ⟨j.val, by omega⟩ = (∑ q : Fin 16, lat j q * w ⟨q.val, by omega⟩) * (kR : EReal))
    (t1 : ∀ j : Fin 64, T ⟨64 + j.val, by omega⟩ = (∑ q : Fin 16, lon j q * w ⟨17 + q.val, by omega⟩) * (kR : EReal))
    (t2 : ∀ j : Fin 64, T ⟨128 + j.val, by omega⟩ = (∑ q : Fin 16, date j q * w ⟨34 + q.val, by omega⟩) * (kR : EReal))
    (t3 : ∀ j : Fin 64, T ⟨192 + j.val, by omega⟩ = (∑ q : Fin 16, sst j q * w ⟨50 + q.val, by omega⟩) * (kR : EReal))
    (t256 : T 256 = w 16 * (kR : EReal)) (t257 : T 257 = w 33 * (kR : EReal))
    (t258 : T 258 = w 66 * (kR : EReal)) (t259 : T 259 = w 67 * (kR : EReal)) :
    ∑ j, s j * T j = (∑ i, embRow (lat i0) (lon i1) (date i2) (sst i3) f0 f1 f3 x4 i * w i) * (kR : EReal) := by
  rw [onehot_sum s T i0 i1 i2 i3 h0 h1 h2 h3, t0, t1, t2, t3, t256, t257, t258, t259, h256, h257, h258, h259,
    embRow_sum]
  simp only [add_mul_k, mul_assoc]
  abel

end RbfMlp

end

end
-- ==== Proof.Decode.lean ====
/-
  Indices held as numbers: an input column between 0 and 64 has an integer part below 64, which both programs find —
  the kernel by `floor`, the reference by rounding toward zero and by the conversion to an integer.
-/
module

public import Idealize.ShloMosaic.PureOps.Ideal
public import Idealize.ShloMosaic.Lib.StableHlo.Predicate

@[expose] public section

noncomputable section

namespace RbfMlp

open Idealize.ShloMosaic Idealize.ShloMosaic.StableHlo.Predicate

/-- The number a table index is, as an extended real. -/
def ofIndex (n : Nat) : EReal := ((n : ℝ) : EReal)

/-- A number in `[0, 64)` has an integer part below 64. -/
theorem exists_floor (x : EReal) (h0 : 0 ≤ x) (h64 : x < ((64 : ℝ) : EReal)) :
    ∃ n : Fin 64, Ideal.liftRound Int.floor x = ofIndex n.val := by
  induction x using EReal.rec with
  | bot => exact absurd h0 (by simp)
  | top => exact absurd h64 (by simp)
  | coe r =>
    have r0 : (0 : ℝ) ≤ r := EReal.coe_nonneg.mp h0
    have r64 : r < 64 := EReal.coe_lt_coe_iff.mp h64
    have hf : 0 ≤ ⌊r⌋ := Int.floor_nonneg.mpr r0
    have hf64 : ⌊r⌋ < 64 := Int.floor_lt.mpr (by exact_mod_cast r64)
    refine ⟨⟨⌊r⌋.toNat, by omega⟩, ?_⟩
    show ((⌊r⌋ : ℝ) : EReal) = ((⌊r⌋.toNat : ℝ) : EReal)
    congr 1
    have : ((⌊r⌋.toNat : ℤ) : ℝ) = (⌊r⌋ : ℝ) := by rw [Int.toNat_of_nonneg hf]
    exact_mod_cast this.symm

/-- Indices are equal when their numbers are. -/
theorem ofIndex_inj (a b : Nat) : ofIndex a = ofIndex b ↔ a = b := by
  unfold ofIndex
  rw [EReal.coe_eq_coe_iff]
  exact Nat.cast_inj

theorem ofIndex_add (a b : Nat) : ofIndex a + ofIndex b = ofIndex (a + b) := by
  unfold ofIndex
  rw [← EReal.coe_add, Nat.cast_add]

/-- Rounding a non-negative number toward zero is its floor. -/
theorem select_trunc (x : EReal) (h0 : 0 ≤ x) :
    Scalar.select (Ideal.cmp .olt x 0) (Ideal.liftRound Int.ceil x) (Ideal.liftRound Int.floor x)
      = Ideal.liftRound Int.floor x := by
  have : Ideal.cmp .olt x 0 = 0#1 := by
    unfold Ideal.cmp
    simp [not_lt.mpr h0]
  rw [this]
  rfl

/-- The conversion to a 32-bit integer of a non-negative number is its floor. -/
theorem fptosi_of_floor (x : EReal) (h0 : 0 ≤ x) (n : Fin 64) (hn : Ideal.liftRound Int.floor x = ofIndex n.val) :
    Ideal.fptosi 32 x = BitVec.ofNat 32 n.val := by
  induction x using EReal.rec with
  | bot => exact absurd h0 (by simp)
  | top => exact absurd hn (by unfold ofIndex; exact fun h => EReal.coe_ne_top _ h.symm)
  | coe r =>
    have r0 : (0 : ℝ) ≤ r := EReal.coe_nonneg.mp h0
    have hf : (⌊r⌋ : ℝ) = (n.val : ℝ) := EReal.coe_eq_coe_iff.mp hn
    have hfi : ⌊r⌋ = (n.val : ℤ) := by exact_mod_cast hf
    have hlt := n.isLt
    show BitVec.ofInt 32 (max _ (min _ (if 0 ≤ r then ⌊r⌋ else ⌈r⌉))) = _
    rw [if_pos r0, hfi, min_eq_right (by norm_num; omega), max_eq_right (by norm_num), BitVec.ofInt_natCast]

/-- A whole number is its own floor. -/
theorem floor_ofIndex (n : Nat) : Ideal.liftRound Int.floor (ofIndex n) = ofIndex n := by
  show (((⌊(n : ℝ)⌋ : ℤ) : ℝ) : EReal) = ((n : ℝ) : EReal)
  rw [Int.floor_natCast]
  rfl

theorem ofIndex_nonneg (n : Nat) : 0 ≤ ofIndex n := EReal.coe_nonneg.mpr (Nat.cast_nonneg n)

/-- The conversion of a table index's number to a 32-bit integer is the index. -/
theorem fptosi_ofIndex (n : Fin 64) : Ideal.fptosi 32 (ofIndex n.val) = BitVec.ofNat 32 n.val :=
  fptosi_of_floor _ (ofIndex_nonneg _) n (floor_ofIndex _)

/-- A small 32-bit integer as a number. -/
theorem sitofp_index (φ : FTy) (j : Nat) (hj : j < 2 ^ 31) :
    (FloatOps.sitofp φ (BitVec.ofNat 32 j) : Ideal φ) = ofIndex j := by
  show (((BitVec.ofNat 32 j).toInt : ℝ) : EReal) = ((j : ℝ) : EReal)
  rw [toInt_ofNat_small j hj]
  norm_cast

/-- The kernel's constant 64. -/
theorem bf16_64 : Ideal.ofBits .bf16 0x4280#16 = ofIndex 64 := by
  unfold ofIndex
  simp [Ideal.ofBits, Ideal.ieee, -EReal.coe_mul]
  norm_num

/-- The constant 64 of the range condition. -/
theorem f32_64 : Ideal.ofBits .f32 0x42800000#32 = ((64 : ℝ) : EReal) := by
  simp [Ideal.ofBits, Ideal.ieee, -EReal.coe_mul]
  norm_num

end RbfMlp

end

end
-- ==== Proof.KernelRow.lean ====
/-
  The kernel's block at a row and a column: the network's output at the row's embedding. Each payload is read at an
  index; the one-hot row finds the embeddings; the scale `k` comes out of every sum.
-/
module

public import proofs.«01_k».proof.Proof.Block
public import proofs.«01_k».proof.Proof.Net
public import proofs.«01_k».proof.Proof.Decode
public import Idealize.ShloMosaic.Lib.Pointwise

@[expose] public section

set_option maxRecDepth 16384

noncomputable section

namespace Cert.KernelIdeal.Row

open Idealize.ShloMosaic Idealize.ShloMosaic.TcCoe Idealize.SL.Sem Cert.KernelIdeal.Gen Cert.KernelIdeal.Block
open RbfMlp

/-- The kernel's named constant is the scale. -/
theorem named_k : (Named.named κ "k" 0x40084075#32 : Ideal .f32) = (kR : EReal) :=
  IdealRules.named_const.ideal_named_scalar _ _ _ _ rfl

/-! ### The one-hot row -/

/-- A choice between one and zero on either of two equalities. -/
theorem select_or (a b : Prop) [Decidable a] [Decidable b] :
    Scalar.select (IntOp.ori (BitVec.ofBool (decide a)) (BitVec.ofBool (decide b))) (1 : EReal) 0
      = if a ∨ b then 1 else 0 := by
  by_cases ha : a <;> by_cases hb : b <;> simp [ha, hb, Scalar.select, IntOp.ori]

section OneHot

variable (x : Vec Ideal S4096x5 .f32) (r : Fin 4096) (n m : Fin 64)

/-- Two indices below 64 never meet once one of them is shifted by 64. -/
theorem select_first (j : Fin 64) {a b : EReal} (ha : a = ofIndex n.val) (hb : b = ofIndex m.val) :
    Scalar.select (IntOp.ori
        (BitVec.ofBool (decide ((FloatOps.sitofp .bf16 (BitVec.ofNat 32 j.val) : Ideal .bf16) = a)))
        (BitVec.ofBool (decide ((FloatOps.sitofp .bf16 (BitVec.ofNat 32 j.val) : Ideal .bf16)
          = b + Ideal.ofBits .bf16 0x4280#16)))) (1 : EReal) 0
      = if j = n then 1 else 0 := by
  rw [select_or, sitofp_index _ _ (by omega), bf16_64, ha, hb, ofIndex_add]
  exact if_congr (by rw [ofIndex_inj, ofIndex_inj, Fin.ext_iff]; omega) rfl rfl

/-- The same for the shifted half. -/
theorem select_second (j : Fin 64) {a b : EReal} (ha : a = ofIndex n.val) (hb : b = ofIndex m.val) :
    Scalar.select (IntOp.ori
        (BitVec.ofBool (decide ((FloatOps.sitofp .bf16 (BitVec.ofNat 32 (64 + j.val)) : Ideal .bf16) = a)))
        (BitVec.ofBool (decide ((FloatOps.sitofp .bf16 (BitVec.ofNat 32 (64 + j.val)) : Ideal .bf16)
          = b + Ideal.ofBits .bf16 0x4280#16)))) (1 : EReal) 0
      = if j = m then 1 else 0 := by
  rw [select_or, sitofp_index _ _ (by omega), bf16_64, ha, hb, ofIndex_add]
  exact if_congr (by rw [ofIndex_inj, ofIndex_inj, Fin.ext_iff]; omega) rfl rfl

/-- The first run of the one-hot row marks the floor of column 0. -/
theorem onehot0 (h0 : Ideal.liftRound Int.floor (x (ix2 r 0)) = ofIndex n.val)
    (h1 : Ideal.liftRound Int.floor (x (ix2 r 1)) = ofIndex m.val) (j : Fin 64) :
    k0_pay15 (F := Ideal) x (ix2 r ⟨j.val, by omega⟩) = if j = n then 1 else 0 := by
  pointwise [k0_pay15]
  rw [dif_pos (by omega)]
  exact select_first n m j h0 h1

/-- The second run marks the floor of column 1. -/
theorem onehot1 (h0 : Ideal.liftRound Int.floor (x (ix2 r 0)) = ofIndex n.val)
    (h1 : Ideal.liftRound Int.floor (x (ix2 r 1)) = ofIndex m.val) (j : Fin 64) :
    k0_pay15 (F := Ideal) x (ix2 r ⟨64 + j.val, by omega⟩) = if j = m then 1 else 0 := by
  pointwise [k0_pay15]
  rw [dif_pos (by omega)]
  exact select_second n m j h0 h1

/-- The third run marks the floor of column 2. -/
theorem onehot2 (h2 : Ideal.liftRound Int.floor (x (ix2 r 2)) = ofIndex n.val)
    (h3 : Ideal.liftRound Int.floor (x (ix2 r 3)) = ofIndex m.val) (j : Fin 64) :
    k0_pay15 (F := Ideal) x (ix2 r ⟨128 + j.val, by omega⟩) = if j = n then 1 else 0 := by
  pointwise [k0_pay15]
  rw [dif_pos (by omega)]
  exact select_first n m j h2 h3

/-- The fourth run marks the floor of column 3. -/
theorem onehot3 (h2 : Ideal.liftRound Int.floor (x (ix2 r 2)) = ofIndex n.val)
    (h3 : Ideal.liftRound Int.floor (x (ix2 r 3)) = ofIndex m.val) (j : Fin 64) :
    k0_pay15 (F := Ideal) x (ix2 r ⟨192 + j.val, by omega⟩) = if j = m then 1 else 0 := by
  pointwise [k0_pay15]
  rw [dif_neg (by omega), dif_pos (by omega), show 192 + j.val - 128 = 64 + j.val by omega]
  exact select_second n m j h2 h3

/-- Entry 256 is the fraction of column 0. -/
theorem plain256 (h : Ideal.liftRound Int.floor (x (ix2 r 0)) = ofIndex n.val) :
    k0_pay15 (F := Ideal) x (ix2 r 256) = x (ix2 r 0) - ofIndex n.val := by
  pointwise [k0_pay15]
  rw [h]

/-- Entry 257 is the fraction of column 1. -/
theorem plain257 (h : Ideal.liftRound Int.floor (x (ix2 r 1)) = ofIndex n.val) :
    k0_pay15 (F := Ideal) x (ix2 r 257) = x (ix2 r 1) - ofIndex n.val := by
  pointwise [k0_pay15]
  rw [h]

/-- Entry 258 is the fraction of column 3. -/
theorem plain258 (h : Ideal.liftRound Int.floor (x (ix2 r 3)) = ofIndex n.val) :
    k0_pay15 (F := Ideal) x (ix2 r 258) = x (ix2 r 3) - ofIndex n.val := by
  pointwise [k0_pay15]
  rw [h]

/-- Entry 259 is column 4. -/
theorem plain259 : k0_pay15 (F := Ideal) x (ix2 r 259) = x (ix2 r 4) := by
  pointwise [k0_pay15]

end OneHot

/-! ### The fused tables -/

section Tables
variable (W : Vec Ideal S68x64 .f32) (lat lon date sst : Vec Ideal S64x16 .f32) (q : Fin 64)

/-- Rows 0–63: the first table against its rows of the weights. -/
theorem fused0 (j : Fin 64) : k0_pay2 (F := Ideal) W lat lon date sst (ix2 ⟨j.val, by omega⟩ q)
    = (∑ d : Fin 16, lat (ix2 j d) * W (ix2 ⟨d.val, by omega⟩ q)) * (kR : EReal) := by
  pointwise [k0_pay2, dot_S64x16_S16x64_S64x64_1_0_0_1_n_n, named_k]

/-- Rows 64–127: the second table. -/
theorem fused1 (j : Fin 64) : k0_pay2 (F := Ideal) W lat lon date sst (ix2 ⟨64 + j.val, by omega⟩ q)
    = (∑ d : Fin 16, lon (ix2 j d) * W (ix2 ⟨17 + d.val, by omega⟩ q)) * (kR : EReal) := by
  pointwise [k0_pay2, dot_S64x16_S16x64_S64x64_1_0_0_1_n_n, named_k]

/-- Rows 128–191: the third table. -/
theorem fused2 (j : Fin 64) : k0_pay2 (F := Ideal) W lat lon date sst (ix2 ⟨128 + j.val, by omega⟩ q)
    = (∑ d : Fin 16, date (ix2 j d) * W (ix2 ⟨34 + d.val, by omega⟩ q)) * (kR : EReal) := by
  pointwise [k0_pay2, dot_S64x16_S16x64_S64x64_1_0_0_1_n_n, named_k]
  rw [dif_neg (by omega), dif_neg (by omega), dif_pos (by omega)]
  simp only [show 128 + j.val - 64 - 64 = j.val by omega]

/-- Rows 192–255: the fourth table. -/
theorem fused3 (j : Fin 64) : k0_pay2 (F := Ideal) W lat lon date sst (ix2 ⟨192 + j.val, by omega⟩ q)
    = (∑ d : Fin 16, sst (ix2 j d) * W (ix2 ⟨50 + d.val, by omega⟩ q)) * (kR : EReal) := by
  pointwise [k0_pay2, dot_S64x16_S16x64_S64x64_1_0_0_1_n_n, named_k]
  rw [dif_neg (by omega), dif_neg (by omega), dif_neg (by omega), dif_pos (by omega)]
  simp only [show 192 + j.val - 64 - 64 - 64 = j.val by omega]

/-- Rows 256–259: the weights of the four plain columns. -/
theorem fused256 : k0_pay2 (F := Ideal) W lat lon date sst (ix2 256 q) = W (ix2 16 q) * (kR : EReal) := by
  pointwise [k0_pay2, dot_S64x16_S16x64_S64x64_1_0_0_1_n_n, named_k]

theorem fused257 : k0_pay2 (F := Ideal) W lat lon date sst (ix2 257 q) = W (ix2 33 q) * (kR : EReal) := by
  pointwise [k0_pay2, dot_S64x16_S16x64_S64x64_1_0_0_1_n_n, named_k]

theorem fused258 : k0_pay2 (F := Ideal) W lat lon date sst (ix2 258 q) = W (ix2 66 q) * (kR : EReal) := by
  pointwise [k0_pay2, dot_S64x16_S16x64_S64x64_1_0_0_1_n_n, named_k]

theorem fused259 : k0_pay2 (F := Ideal) W lat lon date sst (ix2 259 q) = W (ix2 67 q) * (kR : EReal) := by
  pointwise [k0_pay2, dot_S64x16_S16x64_S64x64_1_0_0_1_n_n, named_k]

end Tables

section Halves
variable (x1 : Vec Ideal S90x16 .f32) (x2 : Vec Ideal S360x16 .f32) (x3 : Vec Ideal S64x16 .f32)
  (x4 : Vec Ideal S8192x16 .f32) (x5 : Vec Ideal S68x64 .f32) (x11 : Vec Ideal S196x64 .f32)

/-- The left half of the carried tables is made with the first layer's weights. -/
theorem tables_left (i : Fin 260) (q : Fin 64) :
    scTables x1 x2 x3 x4 x5 x11 (ix2 i ⟨q.val, by omega⟩)
      = k0_pay2 (F := Ideal) x5 (rows90 x1) (rows360 x2) (rows8192 x4) x3 (ix2 i q) := by
  pointwise [scTables, k0_pay7]

/-- The right half is made with the third layer's. -/
theorem tables_right (i : Fin 260) (q : Fin 64) :
    scTables x1 x2 x3 x4 x5 x11 (ix2 i ⟨64 + q.val, by omega⟩)
      = k0_pay2 (F := Ideal) (w3Head x11) (rows90 x1) (rows360 x2) (rows8192 x4) x3 (ix2 i q) := by
  pointwise [scTables, k0_pay7, k0_pay3, k0_pay4, k0_pay5, k0_pay6, k0_pay2]

end Halves

/-! ### The scaled weights and shifts -/

theorem w2_apply (x8 : Vec Ideal S64x128 .f32) (q : Fin 64) (p : Fin 128) :
    scW2 x8 (ix2 q p) = x8 (ix2 q p) * (kR : EReal) := by
  pointwise [scW2, k0_pay8, named_k]

theorem w3_apply (x11 : Vec Ideal S196x64 .f32) (p : Fin 128) (q : Fin 64) :
    scW3 x11 (ix2 p q) = x11 (ix2 ⟨68 + p.val, by omega⟩ q) * (kR : EReal) := by
  pointwise [scW3, k0_pay9, w3Tail, named_k]

theorem w4_apply (x14 : Vec Ideal S64x300 .f32) (q : Fin 64) (j : Fin 300) : scW4 x14 (ix2 q j) = x14 (ix2 q j) := by
  pointwise [scW4, k0_pay10]

theorem c1_apply (b r : Vec Ideal S64 .f32) (q : Fin 64) :
    scC1 b r (ix2 0 q) = (r (ix1 q) - b (ix1 q)) * (kR : EReal) := by
  pointwise [scC1, k0_pay12, named_k]

theorem c2_apply (b r : Vec Ideal S128 .f32) (q : Fin 128) :
    scC2 b r (ix2 0 q) = (r (ix1 q) - b (ix1 q)) * (kR : EReal) := by
  pointwise [scC2, k0_pay13, named_k]

theorem c3_apply (b r : Vec Ideal S64 .f32) (q : Fin 64) :
    scC3 b r (ix2 0 q) = (r (ix1 q) - b (ix1 q)) * (kR : EReal) := by
  pointwise [scC3, k0_pay14, named_k]

theorem b4_apply (b : Vec Ideal S300 .f32) (j : Fin 300) : scB4 b (ix2 0 j) = b (ix1 j) := by
  pointwise [scB4, k0_pay11]

/-! ### The block -/

section Block
variable (x : Vec Ideal S4096x5 .f32) (x1 : Vec Ideal S90x16 .f32) (x2 : Vec Ideal S360x16 .f32)
  (x3 : Vec Ideal S64x16 .f32) (x4 : Vec Ideal S8192x16 .f32) (x5 : Vec Ideal S68x64 .f32) (x6 x7 : Vec Ideal S64 .f32)
  (x8 : Vec Ideal S64x128 .f32) (x9 x10 : Vec Ideal S128 .f32) (x11 : Vec Ideal S196x64 .f32)
  (x12 x13 : Vec Ideal S64 .f32) (x14 : Vec Ideal S64x300 .f32) (x15 : Vec Ideal S300 .f32)
  (r : Fin 4096) (n0 n1 n2 n3 : Fin 64)

/-- The embedded row of row `r` of a block: the table rows its integer parts name, the fractions, the last column. -/
def embedded : Fin 68 → EReal :=
  embRow (fun d => x1 (ix2 ⟨n0.val, by omega⟩ d)) (fun d => x2 (ix2 ⟨n1.val, by omega⟩ d))
    (fun d => x4 (ix2 ⟨n2.val, by omega⟩ d)) (fun d => x3 (ix2 n3 d))
    (x (ix2 r 0) - ofIndex n0.val) (x (ix2 r 1) - ofIndex n1.val) (x (ix2 r 3) - ofIndex n3.val) (x (ix2 r 4))

/-- The network's parameters, entry by entry, from the weight arrays. -/
def params : Params where
  W1 i q := x5 (ix2 i q)
  b1 q := x6 (ix1 q)
  r1 q := x7 (ix1 q)
  W2 q p := x8 (ix2 q p)
  b2 p := x9 (ix1 p)
  r2 p := x10 (ix1 p)
  W3 i q := x11 (ix2 i q)
  b3 q := x12 (ix1 q)
  r3 q := x13 (ix1 q)
  W4 q j := x14 (ix2 q j)
  b4 j := x15 (ix1 j)

variable (h0 : Ideal.liftRound Int.floor (x (ix2 r 0)) = ofIndex n0.val)
  (h1 : Ideal.liftRound Int.floor (x (ix2 r 1)) = ofIndex n1.val)
  (h2 : Ideal.liftRound Int.floor (x (ix2 r 2)) = ofIndex n2.val)
  (h3 : Ideal.liftRound Int.floor (x (ix2 r 3)) = ofIndex n3.val)

include h0 h1 h2 h3 in
/-- The one-hot row against fused tables is the embedded row against the weights they were made with, scaled. -/
theorem row_sum (W : Vec Ideal S68x64 .f32) (q : Fin 64) :
    ∑ i : Fin 260, k0_pay15 (F := Ideal) x (ix2 r i)
        * k0_pay2 (F := Ideal) W (rows90 x1) (rows360 x2) (rows8192 x4) x3 (ix2 i q)
      = (∑ i, embedded x x1 x2 x3 x4 r n0 n1 n2 n3 i * W (ix2 i q)) * (kR : EReal) := by
  refine fused_sum (fun i => k0_pay15 (F := Ideal) x (ix2 r i))
    (fun i => k0_pay2 (F := Ideal) W (rows90 x1) (rows360 x2) (rows8192 x4) x3 (ix2 i q)) n0 n1 n2 n3
    (fun j d => x1 (ix2 ⟨j.val, by omega⟩ d)) (fun j d => x2 (ix2 ⟨j.val, by omega⟩ d))
    (fun j d => x4 (ix2 ⟨j.val, by omega⟩ d)) (fun j d => x3 (ix2 j d)) _ _ _ _ (fun i => W (ix2 i q))
    (onehot0 x r n0 n1 h0 h1) (onehot1 x r n0 n1 h0 h1) (onehot2 x r n2 n3 h2 h3) (onehot3 x r n2 n3 h2 h3)
    (plain256 x r n0 h0) (plain257 x r n1 h1) (plain258 x r n3 h3) (plain259 x r)
    (fun j => ?_) (fun j => ?_) (fun j => ?_) (fused3 W _ _ _ x3 q)
    (fused256 W _ _ _ x3 q) (fused257 W _ _ _ x3 q) (fused258 W _ _ _ x3 q) (fused259 W _ _ _ x3 q)
  · refine (fused0 W _ _ _ x3 q j).trans ?_
    pointwise [rows90]
  · refine (fused1 W _ _ _ x3 q j).trans ?_
    pointwise [rows360]
  · refine (fused2 W _ _ _ x3 q j).trans ?_
    pointwise [rows8192]

/-- The radial basis of a scaled distance, as the kernel writes it. -/
theorem exp2_rbf (A b s : EReal) :
    (FloatOps.exp2 (0 - (A * (kR : EReal) - (s - b) * (kR : EReal)) * (A * (kR : EReal) - (s - b) * (kR : EReal))
      : Ideal .f32) : Ideal .f32) = rbf (A + b - s) :=
  exp2_scaled A b s

/-- The upper rows of the third layer's weights. -/
theorem w3Head_apply (i : Fin 68) (q : Fin 64) : w3Head x11 (ix2 i q) = x11 (ix2 ⟨i.val, by omega⟩ q) := by
  pointwise [w3Head]

include h0 h1 h2 h3 in
/-- The block at a row and a column is the network's output at the embedded row. -/
theorem block_row (j : Fin 300) :
    blockVal x (scTables x1 x2 x3 x4 x5 x11) (scW2 x8) (scW3 x11) (scW4 x14) (scC1 x6 x7) (scC2 x9 x10) (scC3 x12 x13)
        (scB4 x15) (ix2 r j)
      = (params x5 x6 x7 x8 x9 x10 x11 x12 x13 x14 x15).out (embedded x x1 x2 x3 x4 r n0 n1 n2 n3) j := by
  pointwise [blockVal, k0_pay1, k0_pay16, k0_pay17]
  simp only [tables_left, tables_right, row_sum x x1 x2 x3 x4 r n0 n1 n2 n3 h0 h1 h2 h3, w2_apply, w3_apply, w4_apply,
    c1_apply, c2_apply, c3_apply, b4_apply, w3Head_apply, ← mul_assoc, sum_mul_k, ← add_mul_k, exp2_rbf]
  rfl

end Block

end Cert.KernelIdeal.Row

end

end
-- ==== Proof.Take.lean ====
/-
  Rows taken from a table: what the reference's lookup gives at an index of the result when every index lies inside the
  table.
-/
module

public import Idealize.ShloMosaic.PureOps.Ideal
public import Idealize.ShloMosaic.Lib.Pointwise
public import Idealize.ShloMosaic.Lib.ReduceAll
public import Idealize.ShloMosaic.Lib.StableHlo.Predicate

@[expose] public section

noncomputable section

namespace RbfMlp

open Idealize.ShloMosaic Idealize.ShloMosaic.StableHlo.Predicate

/-- The dimension numbers of a lookup of whole rows: a table of `N` rows of `C`, `B` indices, `B` rows out. -/
abbrev rowsOf (N C B : Nat)
    (wf : GatherDims.WF ⟨2, ![N, C]⟩ ⟨2, ![B, 1]⟩ ⟨2, ![B, C]⟩ [1] [0] [] [0] [] 1 ![1, C]) :
    GatherDims ⟨2, ![N, C]⟩ ⟨2, ![B, 1]⟩ ⟨2, ![B, C]⟩ where
  offsetDims := [1]
  collapsedSliceDims := [0]
  operandBatchingDims := []
  startIndicesBatchingDims := []
  startIndexMap := [0]
  indexVectorDim := 1
  sliceSizes := ![1, C]
  wf := wf

/-- A row lookup at `(b, d)`: entry `d` of the row that index `b` names, clamped into the table. -/
theorem gather_rows {α : Type} {N C B w : Nat} (hN : 0 < N)
    (wf : GatherDims.WF ⟨2, ![N, C]⟩ ⟨2, ![B, 1]⟩ ⟨2, ![B, C]⟩ [1] [0] [] [0] [] 1 ![1, C])
    (x : (⟨2, ![N, C]⟩ : Shape).Idx → α) (idx : IVec ⟨2, ![B, 1]⟩ w) (b : Fin B) (d : Fin C) :
    Host.gather (rowsOf N C B wf) x idx (ix2 b d)
      = x (ix2 ⟨min (idx (ix2 b 0)).toInt.toNat (N - 1), by omega⟩ d) := by
  unfold Host.gather
  congr 1
  funext a
  apply Fin.ext
  show (rowsOf N C B wf).start (ix2 b d) idx a + (rowsOf N C B wf).batchCoord (ix2 b d) a
      + (rowsOf N C B wf).offCoord (ix2 b d) a = _
  rw [GatherDims.batchCoord_eq_zero _ _ _ List.not_mem_nil, Nat.add_zero]
  match a with
  | ⟨0, _⟩ =>
    have mem : (⟨0, by decide⟩ : Fin 2) ∈ (rowsOf N C B wf).startIndexMap := List.mem_singleton.mpr rfl
    rw [GatherDims.offCoord_eq_zero _ _ _ (fun h => ((GatherDims.mem_sKept _ _).mp h).1 (List.mem_singleton.mpr rfl)),
      Nat.add_zero, GatherDims.start, dif_pos mem]
    have at0 : (rowsOf N C B wf).siIdx (ix2 b d)
        ⟨List.idxOf (⟨0, by decide⟩ : Fin 2) (rowsOf N C B wf).startIndexMap, List.idxOf_lt_length_iff.2 mem⟩
          = ix2 b 0 := by
      funext e
      apply Fin.ext
      match e with
      | ⟨0, _⟩ => rfl
      | ⟨1, _⟩ => rfl
    rw [at0]
    rfl
  | ⟨1, _⟩ =>
    have off : (⟨1, by decide⟩ : Fin 2) ∉ (rowsOf N C B wf).startIndexMap := by
      intro h
      exact Nat.one_ne_zero (congrArg Fin.val (List.mem_singleton.mp h))
    rw [GatherDims.start, dif_neg off, Nat.zero_add]
    have kept : (⟨1, by decide⟩ : Fin 2) ∈ (rowsOf N C B wf).sKept :=
      (GatherDims.mem_sKept _ _).mpr ⟨off, List.not_mem_nil⟩
    rw [GatherDims.offCoord, dif_pos kept]
    rfl

/-- An index inside the table is not negative, so it is not moved by the table's length. -/
theorem wrap_small (n : Nat) (hn : n < 2 ^ 31) (m : BitVec 32) :
    Scalar.select (IntOp.cmpi .slt (BitVec.ofNat 32 n) 0#32) m (BitVec.ofNat 32 n) = BitVec.ofNat 32 n := by
  unfold Scalar.select
  rw [if_neg]
  intro h
  have := (slt_ofNat_iff n 0 hn (by norm_num)).mp h
  omega

/-- An index inside the table passes the lookup's range check. -/
theorem mask_small (n N : Nat) (hn : n ≤ N) (hN : N < 2 ^ 31) :
    IntOp.andi (IntOp.cmpi .sge (BitVec.ofNat 32 n) 0#32) (IntOp.cmpi .sle (BitVec.ofNat 32 n) (BitVec.ofNat 32 N))
      = 1#1 := by
  have h1 : IntOp.cmpi .sge (BitVec.ofNat 32 n) 0#32 = 1#1 := (sle_ofNat_iff 0 n (by norm_num) (by omega)).mpr (by omega)
  have h2 : IntOp.cmpi .sle (BitVec.ofNat 32 n) (BitVec.ofNat 32 N) = 1#1 := (sle_ofNat_iff n N (by omega) hN).mpr hn
  rw [h1, h2]
  rfl

/-- An index inside the table is not clamped. -/
theorem clamp_small (n N : Nat) (hn : n ≤ N) (hN : N < 2 ^ 31) :
    min (BitVec.ofNat 32 n).toInt.toNat N = n := by
  rw [toInt_ofNat_small n (by omega)]
  omega

end RbfMlp

end

end
-- ==== Proof.RefSide.lean ====
/-
  The reference at a row and a column: the network's output at the row's embedding.
-/
module

public import proofs.«01_k».proof.Proof.Gen.ReferenceIdeal.Read
public import proofs.«01_k».proof.Proof.Take
public import proofs.«01_k».proof.Proof.Decode
public import proofs.«01_k».proof.Proof.Net
public import Idealize.ShloMosaic.Lib.Pointwise

@[expose] public section

set_option maxRecDepth 16384

noncomputable section

namespace Cert.ReferenceIdeal.Row

open Cert.ReferenceIdeal Cert.ReferenceIdeal.Gen Cert.ReferenceIdeal.Read Idealize.ShloMosaic Idealize.ShloMosaic.TcCoe
  Idealize.SL.Sem
open RbfMlp

/-! ### The lookups -/

/-- The row numbers a lookup reads: a negative one is moved by the table's length. -/
def wrapped (len : BitVec 32) (i : IVec S16384 32) : IVec S16384x1 32 :=
  broadcastInDim S16384x1 ![0] bcast_S16384_S16384x1_0
    (select (cmpi .slt i (broadcastInDim S16384 ![] bcast_S_S16384 (constantI S_ 32 0#32)))
      (addi i (broadcastInDim S16384 ![] bcast_S_S16384 (constantI S_ 32 len))) i)

/-- Which row numbers lie inside the table. -/
def inside (last : BitVec 32) (ix : IVec S16384x1 32) : IVec S16384x1 1 :=
  andi (cmpi .sge ix (broadcastInDim S16384x1 ![] bcast_S_S16384x1 (constantI S_ 32 0#32)))
    (cmpi .sle ix (broadcastInDim S16384x1 ![0, 1] bcast_S1x1_S16384x1_0_1
      (broadcastInDim S1x1 ![1] bcast_S1_S1x1_1 (constantI S1 32 last))))

/-- The rows looked up, with a not-a-number row for a number outside the table. -/
def lookup {N : Nat} (wf : GatherDims.WF ⟨2, ![N, 16]⟩ S16384x1 S16384x16 [1] [0] [] [0] [] 1 ![1, 16])
    (len last : BitVec 32) (T : Vec Ideal ⟨2, ![N, 16]⟩ .f32) (i : IVec S16384 32) : Vec Ideal S16384x16 .f32 :=
  select (broadcastInDim S16384x16 ![0] bcast_S16384_S16384x16_0
      (Host.reduce IntOp.andi (inside last (wrapped len i)) (constantI S_ 1 1#1) reducesTo_S16384x1_S16384_d1 h_S_))
    (Host.gather (rowsOf N 16 16384 wf) T (wrapped len i))
    (broadcastInDim S16384x16 ![] bcast_S_S16384x16 (constant (F := Ideal) S_ .f32 0x7FC00000#32))

theorem wrapped_apply (len : BitVec 32) (i : IVec S16384 32) (ix : Fin 16384 → Fin 64)
    (hi : ∀ b, i (ix1 b) = BitVec.ofNat 32 (ix b).val) (b : Fin 16384) (z : Fin 1) :
    wrapped len i (ix2 b z) = BitVec.ofNat 32 (ix b).val := by
  pointwise [wrapped]
  rw [hi]
  exact wrap_small _ (by omega) _

theorem inside_apply (last : Nat) (h63 : 63 ≤ last) (hlast : last < 2 ^ 31) (i : IVec S16384x1 32) (ix : Fin 16384 → Fin 64)
    (hi : ∀ b z, i (ix2 b z) = BitVec.ofNat 32 (ix b).val) (b : Fin 16384) (z : Fin 1) :
    inside (BitVec.ofNat 32 last) i (ix2 b z) = 1#1 := by
  pointwise [inside]
  rw [hi]
  exact mask_small _ _ (by omega) hlast

/-- A lookup of row numbers below 64, in a table with at least 64 rows, gives the rows they name. -/
theorem lookup_apply {N : Nat} (wf : GatherDims.WF ⟨2, ![N, 16]⟩ S16384x1 S16384x16 [1] [0] [] [0] [] 1 ![1, 16])
    (hN : 64 ≤ N) (hlt : N < 2 ^ 31) (len : BitVec 32)
    (T : Vec Ideal ⟨2, ![N, 16]⟩ .f32) (i : IVec S16384 32) (ix : Fin 16384 → Fin 64)
    (hi : ∀ b, i (ix1 b) = BitVec.ofNat 32 (ix b).val) (b : Fin 16384) (d : Fin 16) :
    lookup wf len (BitVec.ofNat 32 (N - 1)) T i (ix2 b d) = T (ix2 ⟨(ix b).val, by omega⟩ d) := by
  pointwise [lookup]
  rw [gather_rows (by omega)]
  simp only [wrapped_apply len i ix hi, inside_apply (N - 1) (by omega) (by omega) _ ix (wrapped_apply len i ix hi), clamp_small _ (N - 1)
    (show (ix b).val ≤ N - 1 by omega) (by omega)]
  rfl

/-! ### The index columns -/

section Network
variable (x0 : Vec Ideal S16384x5 .f32) (x1 : Vec Ideal S90x16 .f32) (x2 : Vec Ideal S360x16 .f32)
  (x3 : Vec Ideal S64x16 .f32) (x4 : Vec Ideal S8192x16 .f32) (x5 : Vec Ideal S68x64 .f32) (x6 x7 : Vec Ideal S64 .f32)
  (x8 : Vec Ideal S64x128 .f32) (x9 x10 : Vec Ideal S128 .f32) (x11 : Vec Ideal S196x64 .f32)
  (x12 x13 : Vec Ideal S64 .f32) (x14 : Vec Ideal S64x300 .f32) (x15 : Vec Ideal S300 .f32)

/-- Column `q` of the input holds non-negative numbers whose floors are the row numbers `n`. -/
structure Column (q : Fin 5) (n : Fin 16384 → Fin 64) : Prop where
  nonneg : ∀ b, 0 ≤ x0 (ix2 b q)
  floor : ∀ b, Ideal.liftRound Int.floor (x0 (ix2 b q)) = ofIndex (n b).val

variable {x0} {n0 n1 n2 n3 : Fin 16384 → Fin 64} (c0 : Column x0 0 n0) (c1 : Column x0 1 n1) (c2 : Column x0 2 n2)
  (c3 : Column x0 3 n3)

include c0 in
theorem trunc0 (b : Fin 16384) : val_main_v2 (F := Ideal) x0 (ix1 b) = ofIndex (n0 b).val := by
  pointwise [val_main_v2, val_main_call0_v1, val_main_call0_v2, val_main_call0_v3, val_main_v1, val_main_v0,
    val_main_call0_v0, val_main_call0_cst]
  rw [if_neg (not_lt.mpr (c0.nonneg b)), c0.floor]

include c1 in
theorem trunc1 (b : Fin 16384) : val_main_v5 (F := Ideal) x0 (ix1 b) = ofIndex (n1 b).val := by
  pointwise [val_main_v5, val_main_call1_v1, val_main_call1_v2, val_main_call1_v3, val_main_v4, val_main_v3,
    val_main_call1_v0, val_main_call1_cst]
  rw [if_neg (not_lt.mpr (c1.nonneg b)), c1.floor]

include c3 in
theorem trunc3 (b : Fin 16384) : val_main_v8 (F := Ideal) x0 (ix1 b) = ofIndex (n3 b).val := by
  pointwise [val_main_v8, val_main_call2_v1, val_main_call2_v2, val_main_call2_v3, val_main_v7, val_main_v6,
    val_main_call2_v0, val_main_call2_cst]
  rw [if_neg (not_lt.mpr (c3.nonneg b)), c3.floor]

include c0 in
/-- The latitude rows. -/
theorem lat_apply (b : Fin 16384) (d : Fin 16) :
    val_main_v10 (F := Ideal) x0 x1 (ix2 b d) = x1 (ix2 ⟨(n0 b).val, by omega⟩ d) :=
  lookup_apply gather_S90x16_S16384x1_S16384x16_1_0_n_n_0_1_116_wf (by norm_num) (by norm_num) 90#32 x1
    (val_main_v9 (F := Ideal) x0) n0 (fun b => by
      show Ideal.fptosi 32 (val_main_v2 (F := Ideal) x0 (ix1 b)) = _
      rw [trunc0 c0, fptosi_ofIndex]) b d

include c1 in
/-- The longitude rows. -/
theorem lon_apply (b : Fin 16384) (d : Fin 16) :
    val_main_v17 (F := Ideal) x0 x2 (ix2 b d) = x2 (ix2 ⟨(n1 b).val, by omega⟩ d) :=
  lookup_apply gather_S360x16_S16384x1_S16384x16_1_0_n_n_0_1_116_wf (by norm_num) (by norm_num) 360#32 x2
    (val_main_v16 (F := Ideal) x0) n1 (fun b => by
      show Ideal.fptosi 32 (val_main_v5 (F := Ideal) x0 (ix1 b)) = _
      rw [trunc1 c1, fptosi_ofIndex]) b d

include c2 in
/-- The date rows. -/
theorem date_apply (b : Fin 16384) (d : Fin 16) :
    val_main_v26 (F := Ideal) x0 x4 (ix2 b d) = x4 (ix2 ⟨(n2 b).val, by omega⟩ d) :=
  lookup_apply gather_S8192x16_S16384x1_S16384x16_1_0_n_n_0_1_116_wf (by norm_num) (by norm_num) 8192#32 x4
    (val_main_v25 (F := Ideal) x0) n2 (fun b => by
      pointwise [val_main_v25, val_main_v24, val_main_v23]
      exact fptosi_of_floor _ (c2.nonneg b) _ (c2.floor b)) b d

include c3 in
/-- The sea surface temperature rows. -/
theorem sst_apply (b : Fin 16384) (d : Fin 16) :
    val_main_v28 (F := Ideal) x0 x3 (ix2 b d) = x3 (ix2 (n3 b) d) :=
  lookup_apply gather_S64x16_S16384x1_S16384x16_1_0_n_n_0_1_116_wf (by norm_num) (by norm_num) 64#32 x3
    (val_main_v27 (F := Ideal) x0) n3 (fun b => by
      show Ideal.fptosi 32 (val_main_v8 (F := Ideal) x0 (ix1 b)) = _
      rw [trunc3 c3, fptosi_ofIndex]) b d

variable (x0 n0 n1 n2 n3) in
/-- The embedded row of row `b`. -/
def embedded (b : Fin 16384) : Fin 68 → EReal :=
  embRow (fun d => x1 (ix2 ⟨(n0 b).val, by omega⟩ d)) (fun d => x2 (ix2 ⟨(n1 b).val, by omega⟩ d))
    (fun d => x4 (ix2 ⟨(n2 b).val, by omega⟩ d)) (fun d => x3 (ix2 (n3 b) d))
    (x0 (ix2 b 0) - ofIndex (n0 b).val) (x0 (ix2 b 1) - ofIndex (n1 b).val) (x0 (ix2 b 3) - ofIndex (n3 b).val)
    (x0 (ix2 b 4))

include c0 c1 c2 c3 in
/-- The reference's concatenated row is the embedded row. -/
theorem embedded_apply (b : Fin 16384) (i : Fin 68) :
    val_main_v37 (F := Ideal) x0 x1 x2 x3 x4 (ix2 b i) = embedded x0 x1 x2 x3 x4 n0 n1 n2 n3 b i := by
  pointwise [val_main_v37, val_main_v36, val_main_v35, val_main_v34, val_main_v33, val_main_v32, val_main_v31,
    val_main_v30, val_main_v29, val_main_v22, val_main_v21, val_main_v20, val_main_v19, val_main_v18, val_main_v15,
    val_main_v14, val_main_v13, val_main_v12, val_main_v11]
  simp only [lat_apply x1 c0, lon_apply x2 c1, date_apply x4 c2, sst_apply x3 c3, trunc0 c0, trunc1 c1, trunc3 c3,
    Nat.sub_sub, Nat.reduceAdd]
  unfold embedded embRow
  have hi := i.isLt
  rcases (show i.val < 16 ∨ i.val = 16 ∨ (17 ≤ i.val ∧ i.val < 33) ∨ i.val = 33 ∨ (34 ≤ i.val ∧ i.val < 50)
      ∨ (50 ≤ i.val ∧ i.val < 66) ∨ i.val = 66 ∨ i.val = 67 by omega) with h | h | h | h | h | h | h | h <;>
    simp (discharger := omega) only [dif_pos, dif_neg, if_pos, if_neg]

/-- The network's parameters, entry by entry, from the weight arrays. -/
def params : Params where
  W1 i q := x5 (ix2 i q)
  b1 q := x6 (ix1 q)
  r1 q := x7 (ix1 q)
  W2 q p := x8 (ix2 q p)
  b2 p := x9 (ix1 p)
  r2 p := x10 (ix1 p)
  W3 i q := x11 (ix2 i q)
  b3 q := x12 (ix1 q)
  r3 q := x13 (ix1 q)
  W4 q j := x14 (ix2 q j)
  b4 j := x15 (ix1 j)

/-- The reference's constant is minus the number it writes for π. -/
theorem minus_pi : Ideal.ofBits .f32 0xC0490FDB#32 = ((-piF : ℝ) : EReal) := by
  unfold piF
  simp [Ideal.ofBits, Ideal.ieee, -EReal.coe_mul]
  norm_num

include c0 c1 c2 c3 in
/-- The reference's first layer. -/
theorem layer1 (b : Fin 16384) (q : Fin 64) :
    val_main_v48 (F := Ideal) x0 x1 x2 x3 x4 x5 x6 x7 (ix2 b q)
      = (params x5 x6 x7 x8 x9 x10 x11 x12 x13 x14 x15).h1 (embedded x0 x1 x2 x3 x4 n0 n1 n2 n3 b) q := by
  pointwise [val_main_v48, val_main_v47, val_main_v46, val_main_cst, val_main_v45, val_main_v44, val_main_v43,
    val_main_v42, val_main_v41, val_main_v40, val_main_v39, val_main_v38]
  simp only [embedded_apply x1 x2 x3 x4 c0 c1 c2 c3, minus_pi]
  rfl

include c0 c1 c2 c3 in
/-- The reference's second layer. -/
theorem layer2 (b : Fin 16384) (p : Fin 128) :
    val_main_v59 (F := Ideal) x0 x1 x2 x3 x4 x5 x6 x7 x8 x9 x10 (ix2 b p)
      = (params x5 x6 x7 x8 x9 x10 x11 x12 x13 x14 x15).h2 (embedded x0 x1 x2 x3 x4 n0 n1 n2 n3 b) p := by
  pointwise [val_main_v59, val_main_v58, val_main_v57, val_main_cst_0, val_main_v56, val_main_v55, val_main_v54,
    val_main_v53, val_main_v52, val_main_v51, val_main_v50, val_main_v49]
  simp only [layer1 x1 x2 x3 x4 x5 x6 x7 x8 x9 x10 x11 x12 x13 x14 x15 c0 c1 c2 c3, minus_pi]
  rfl

include c0 c1 c2 c3 in
/-- The third layer reads the embedded row first. -/
theorem joined_left (b : Fin 16384) (i : Fin 68) :
    val_main_v60 (F := Ideal) x0 x1 x2 x3 x4 x5 x6 x7 x8 x9 x10 (ix2 b ⟨i.val, by omega⟩)
      = embedded x0 x1 x2 x3 x4 n0 n1 n2 n3 b i := by
  pointwise [val_main_v60]
  exact embedded_apply x1 x2 x3 x4 c0 c1 c2 c3 b i

include c0 c1 c2 c3 in
/-- And the second layer's output after it. -/
theorem joined_right (b : Fin 16384) (p : Fin 128) :
    val_main_v60 (F := Ideal) x0 x1 x2 x3 x4 x5 x6 x7 x8 x9 x10 (ix2 b ⟨68 + p.val, by omega⟩)
      = (params x5 x6 x7 x8 x9 x10 x11 x12 x13 x14 x15).h2 (embedded x0 x1 x2 x3 x4 n0 n1 n2 n3 b) p := by
  pointwise [val_main_v60]
  exact layer2 x1 x2 x3 x4 x5 x6 x7 x8 x9 x10 x11 x12 x13 x14 x15 c0 c1 c2 c3 b p

include c0 c1 c2 c3 in
/-- The reference at a row and a column is the network's output at the embedded row. -/
theorem reference_row (b : Fin 16384) (j : Fin 300) :
    val_main_v75 (F := Ideal) x0 x1 x2 x3 x4 x5 x6 x7 x8 x9 x10 x11 x12 x13 x14 x15 (ix2 b j)
      = (params x5 x6 x7 x8 x9 x10 x11 x12 x13 x14 x15).out (embedded x0 x1 x2 x3 x4 n0 n1 n2 n3 b) j := by
  pointwise [val_main_v75, val_main_v74, val_main_v73, val_main_v72, val_main_v71, val_main_v70, val_main_v69,
    val_main_cst_1, val_main_v68, val_main_v67, val_main_v66, val_main_v65, val_main_v64, val_main_v63, val_main_v62,
    val_main_v61]
  simp only [sum196, joined_left x1 x2 x3 x4 x5 x6 x7 x8 x9 x10 c0 c1 c2 c3,
    joined_right x1 x2 x3 x4 x5 x6 x7 x8 x9 x10 x11 x12 x13 x14 x15 c0 c1 c2 c3, minus_pi]
  rfl

end Network

end Cert.ReferenceIdeal.Row

end

end
-- ==== Proof.Range.lean ====
/-
  The stated range of the index columns, entry by entry: every one of the first four input columns holds numbers from 0
  up to 64, whose floors are row numbers below 64.
-/
module

public import proofs.«01_k».proof.Proof.Gen.Pre_in_range
public import proofs.«01_k».proof.Proof.Decode
public import Idealize.ShloMosaic.Lib.ReduceAll
public import Idealize.ShloMosaic.Lib.Pointwise

@[expose] public section

set_option maxRecDepth 16384

noncomputable section

namespace Cert.Pre_in_range.Row

open Cert.Pre_in_range Cert.Pre_in_range.Gen Idealize.ShloMosaic
  Idealize.ShloMosaic.StableHlo.Predicate RbfMlp

variable (x0 : Vec Ideal S16384x5 .f32) (x1 : Vec Ideal S90x16 .f32) (x2 : Vec Ideal S360x16 .f32)
  (x3 : Vec Ideal S64x16 .f32) (x4 : Vec Ideal S8192x16 .f32) (x5 : Vec Ideal S68x64 .f32) (x6 x7 : Vec Ideal S64 .f32)
  (x8 : Vec Ideal S64x128 .f32) (x9 x10 : Vec Ideal S128 .f32) (x11 : Vec Ideal S196x64 .f32)
  (x12 x13 : Vec Ideal S64 .f32) (x14 : Vec Ideal S64x300 .f32) (x15 : Vec Ideal S300 .f32)

/-- The range condition at one entry of the first four columns. -/
theorem in_range_at (h : fn (F := Ideal) x0 x1 x2 x3 x4 x5 x6 x7 x8 x9 x10 x11 x12 x13 x14 x15 = fun _ => 1#1)
    (b : Fin 16384) (q : Fin 4) :
    0 ≤ x0 (ix2 b ⟨q.val, by omega⟩) ∧ x0 (ix2 b ⟨q.val, by omega⟩) < ((64 : ℝ) : EReal) := by
  have e := congrFun h ix0
  unfold fn at e
  have e' := Host.reduce_andi_eq_one _ _ _ _ _ e (ix2 b q) (funext fun a => a.elim0)
  pointwise at e'
  have both := IntOp.andi_eq_one.mp e'
  rw [ofBool_eq_one_iff, ofBool_eq_one_iff, decide_eq_true_eq, decide_eq_true_eq, f32_64] at both
  exact both

/-- The floors of the first four columns are row numbers below 64. -/
theorem rows_exist (h : fn (F := Ideal) x0 x1 x2 x3 x4 x5 x6 x7 x8 x9 x10 x11 x12 x13 x14 x15 = fun _ => 1#1) (q : Fin 4) :
    ∃ n : Fin 16384 → Fin 64, ∀ b, 0 ≤ x0 (ix2 b ⟨q.val, by omega⟩)
      ∧ Ideal.liftRound Int.floor (x0 (ix2 b ⟨q.val, by omega⟩)) = ofIndex (n b).val := by
  have at_row := fun b => in_range_at x0 x1 x2 x3 x4 x5 x6 x7 x8 x9 x10 x11 x12 x13 x14 x15 h b q
  choose n hn using fun b => exists_floor _ (at_row b).1 (at_row b).2
  exact ⟨n, fun b => ⟨(at_row b).1, hn b⟩⟩

end Cert.Pre_in_range.Row

end

end
-- ==== Proof.Equation.lean ====
/-
  The equation between the two programs, one device at a time: the kernel's result array is the reference's, entry by
  entry, when the index columns are in range.
-/
module

public import proofs.«01_k».proof.Proof.Array
public import proofs.«01_k».proof.Proof.KernelRow
public import proofs.«01_k».proof.Proof.RefSide
public import proofs.«01_k».proof.Proof.Range

@[expose] public section

set_option maxRecDepth 16384

noncomputable section

namespace Cert.Equation

open Idealize.ShloMosaic Idealize.ShloMosaic.TcCoe Idealize.SL.Sem
open Cert.KernelIdeal Cert.KernelIdeal.Gen Cert.KernelIdeal.Array Cert.KernelIdeal.Value RbfMlp

variable (m : (ℓ : Loc nD τ sig) → Buf (Elt Ideal) ℓ) (c : Dev nD)

/-- The kernel's result array is the reference's result of the same arguments. -/
theorem result_eq
    (h : Cert.Pre_in_range.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10))
      (m ((c : Thread nD τ).loc main_arg11)) (m ((c : Thread nD τ).loc main_arg12))
      (m ((c : Thread nD τ).loc main_arg13)) (m ((c : Thread nD τ).loc main_arg14))
      (m ((c : Thread nD τ).loc main_arg15)) = fun _ => 1#1) :
    Cert.ReferenceIdeal.Read.val_main_v75 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9))
      (m ((c : Thread nD τ).loc main_arg10)) (m ((c : Thread nD τ).loc main_arg11))
      (m ((c : Thread nD τ).loc main_arg12)) (m ((c : Thread nD τ).loc main_arg13))
      (m ((c : Thread nD τ).loc main_arg14)) (m ((c : Thread nD τ).loc main_arg15)) = G16 m c := by
  obtain ⟨n0, e0⟩ := Cert.Pre_in_range.Row.rows_exist _ _ _ _ _ _ _ _ _ _ _ _ _ _ _ _ h 0
  obtain ⟨n1, e1⟩ := Cert.Pre_in_range.Row.rows_exist _ _ _ _ _ _ _ _ _ _ _ _ _ _ _ _ h 1
  obtain ⟨n2, e2⟩ := Cert.Pre_in_range.Row.rows_exist _ _ _ _ _ _ _ _ _ _ _ _ _ _ _ _ h 2
  obtain ⟨n3, e3⟩ := Cert.Pre_in_range.Row.rows_exist _ _ _ _ _ _ _ _ _ _ _ _ _ _ _ _ h 3
  refine funext fun i => ?_
  obtain ⟨r, j, rfl⟩ : ∃ (r : Fin 16384) (j : Fin 300), i = ix2 r j :=
    ⟨i 0, i 1, funext fun a => by match a with | ⟨0, _⟩ => rfl | ⟨1, _⟩ => rfl⟩
  have hN : cfg0.N = 4 := N_0
  have row_eq := fun q => xBlock_apply m c ⟨r.val / 4096, by omega⟩ ⟨r.val % 4096, by omega⟩ q r
    (by show r.val = 4096 * (r.val / 4096) + r.val % 4096; omega)
  rw [result_apply m c r j ⟨r.val / 4096, by omega⟩ ⟨r.val % 4096, by omega⟩
      (by show r.val = 4096 * (r.val / 4096) + r.val % 4096; omega)]
  refine (Cert.ReferenceIdeal.Row.reference_row (n0 := n0) (n1 := n1) (n2 := n2) (n3 := n3) _ _ _ _ _ _ _ _ _ _ _ _ _ _
    _ ⟨fun b => (e0 b).1, fun b => (e0 b).2⟩ ⟨fun b => (e1 b).1, fun b => (e1 b).2⟩
    ⟨fun b => (e2 b).1, fun b => (e2 b).2⟩ ⟨fun b => (e3 b).1, fun b => (e3 b).2⟩ r j).trans ?_
  refine Eq.trans ?_ (Cert.KernelIdeal.Row.block_row _ _ _ _ _ _ _ _ _ _ _ _ _ _ _ _ _ (n0 r) (n1 r) (n2 r) (n3 r)
    ((congrArg _ (row_eq 0)).trans (e0 r).2) ((congrArg _ (row_eq 1)).trans (e1 r).2)
    ((congrArg _ (row_eq 2)).trans (e2 r).2) ((congrArg _ (row_eq 3)).trans (e3 r).2) j).symm
  unfold Cert.KernelIdeal.Row.embedded
  rw [row_eq 0, row_eq 1, row_eq 3, row_eq 4]
  rfl

end Cert.Equation

end

end
-- ==== Proof.lean ====
/- The proof of the certificate's claim. The kernel and its idealization run to their end; the
   idealization replaces one constant by its name; and under the stated range of the index columns the
   idealized kernel's result equals the reference's, element by element, as extended reals. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_in_range
public import proofs.«01_k».proof.Proof.Gen.ReferenceIdeal.Read
public import proofs.«01_k».proof.Proof.Equation
public import Idealize.ShloMosaic.Adequacy
public import Idealize.ShloMosaic.Init

@[expose] public section

noncomputable section

namespace Cert.Proof

open Idealize.ShloMosaic Idealize.SL.Sem

/-- The reference runs to its end with every argument unchanged and every semaphore counter at zero. -/
theorem reference_runs : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The named constant `k`: the idealized kernel reads the real it stands for. -/
theorem names_k : Cert.preserves_Kernel_KernelIdeal :=
  IdealRules.named_const.statement Cert.KernelIdeal.κ "k" .f32 0x40084075#32
    ((Real.sqrt ((13176795 / 4194304) * (Real.log 2)⁻¹) : ℝ) : EReal) rfl

/-- With the index columns in range, the idealized kernel and the reference end with equal results. -/
theorem equal_results : Cert.algebraic_KernelIdeal_ReferenceIdeal_pre_in_range := by
  intro m g m' g' hpre hagree
  refine ⟨_, Cert.KernelIdeal.Value.run (F := Ideal) m g, ?_⟩
  refine (θ_run Cert.ReferenceIdeal.defs _ _).mono (fun _ h c => ⟨?_, (h c).2⟩)
    (Cert.ReferenceIdeal.Value.run (F := Ideal) m' g')
  rw [(h c).1, Cert.ReferenceIdeal.Read.val_main_v75_eq]
  obtain ⟨a0, a1, a2, a3, a4, a5, a6, a7, a8, a9, a10, a11, a12, a13, a14, a15⟩ := hagree c
  change Cert.ReferenceIdeal.Read.val_main_v75
    (m' (c.tc.loc Cert.ReferenceIdeal.main_arg0)) (m' (c.tc.loc Cert.ReferenceIdeal.main_arg1))
    (m' (c.tc.loc Cert.ReferenceIdeal.main_arg2)) (m' (c.tc.loc Cert.ReferenceIdeal.main_arg3))
    (m' (c.tc.loc Cert.ReferenceIdeal.main_arg4)) (m' (c.tc.loc Cert.ReferenceIdeal.main_arg5))
    (m' (c.tc.loc Cert.ReferenceIdeal.main_arg6)) (m' (c.tc.loc Cert.ReferenceIdeal.main_arg7))
    (m' (c.tc.loc Cert.ReferenceIdeal.main_arg8)) (m' (c.tc.loc Cert.ReferenceIdeal.main_arg9))
    (m' (c.tc.loc Cert.ReferenceIdeal.main_arg10)) (m' (c.tc.loc Cert.ReferenceIdeal.main_arg11))
    (m' (c.tc.loc Cert.ReferenceIdeal.main_arg12)) (m' (c.tc.loc Cert.ReferenceIdeal.main_arg13))
    (m' (c.tc.loc Cert.ReferenceIdeal.main_arg14)) (m' (c.tc.loc Cert.ReferenceIdeal.main_arg15)) = _
  rw [a0, a1, a2, a3, a4, a5, a6, a7, a8, a9, a10, a11, a12, a13, a14, a15]
  exact Cert.Equation.result_eq m c (hpre c)

/-- Every claim of the certificate. -/
theorem claim : Cert.Claim :=
  ⟨Cert.Kernel.Gen.facts, Cert.KernelIdeal.Gen.facts, Cert.ReferenceIdeal.Gen.facts, Cert.Pre_in_range.Gen.facts,
    fun m ρ _ => Cert.Kernel.Gen.frame m ρ, fun m ρ _ => Cert.KernelIdeal.Gen.frame m ρ,
    fun m ρ _ => Cert.KernelIdeal.Gen.frame m ρ, reference_runs,
    fun m ρ _ => reference_runs m ρ trivial, names_k, equal_results⟩

end Cert.Proof

end
